-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)

def preserves_Reference_ReferenceIdeal : Prop :=
  IdealRules.named_const.Statement Cert.ReferenceIdeal.κ "sqrt_half" .f32 0x3F3504F3#32 (((Real.sqrt 2)⁻¹ : ℝ) : EReal)
  ∧ IdealRules.named_const.Statement Cert.ReferenceIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S3x8192x2048 : Shape := ⟨3, ![3, 8192, 2048]⟩
abbrev S3x8192x1 : Shape := ⟨3, ![3, 8192, 1]⟩
abbrev S7168x2048 : Shape := ⟨2, ![7168, 2048]⟩
abbrev S7168 : Shape := ⟨1, ![7168]⟩
abbrev S48x4x128 : Shape := ⟨3, ![48, 4, 128]⟩
abbrev S24576x2048 : Shape := ⟨2, ![24576, 2048]⟩
abbrev S1x7168 : Shape := ⟨2, ![1, 7168]⟩
abbrev S24576x7168 : Shape := ⟨2, ![24576, 7168]⟩
abbrev S1x4x128 : Shape := ⟨3, ![1, 4, 128]⟩
abbrev S512x2048 : Shape := ⟨2, ![512, 2048]⟩
abbrev S512x7168 : Shape := ⟨2, ![512, 7168]⟩
abbrev S512x128 : Shape := ⟨2, ![512, 128]⟩
abbrev S1x1x128 : Shape := ⟨3, ![1, 1, 128]⟩
abbrev S1x128 : Shape := ⟨2, ![1, 128]⟩
abbrev S128x128 : Shape := ⟨2, ![128, 128]⟩
abbrev S1024x2048 : Shape := ⟨2, ![1024, 2048]⟩
abbrev S512x1024 : Shape := ⟨2, ![512, 1024]⟩
abbrev S1x1024 : Shape := ⟨2, ![1, 1024]⟩
abbrev S128 : Shape := ⟨1, ![128]⟩
abbrev S128x1 : Shape := ⟨2, ![128, 1]⟩

abbrev nBuf : Space → Nat
  | .hbm => 11
  | .vmem => 15
  | .smem => 0
  | _ => 0

abbrev bufTy : (tb : Table) → Fin (tcTables nBuf tb) → BufTy
  | .hbm, ⟨0, _⟩ => ⟨S3x8192x2048, .fp8e4m3⟩
  | .hbm, ⟨1, _⟩ => ⟨S3x8192x1, .f32⟩
  | .hbm, ⟨2, _⟩ => ⟨S7168x2048, .fp8e4m3⟩
  | .hbm, ⟨3, _⟩ => ⟨S7168, .f32⟩
  | .hbm, ⟨4, _⟩ => ⟨S7168, .bf16⟩
  | .hbm, ⟨5, _⟩ => ⟨S48x4x128, .f32⟩
  | .hbm, ⟨6, _⟩ => ⟨S24576x2048, .fp8e4m3⟩
  | .hbm, ⟨7, _⟩ => ⟨S1x7168, .f32⟩
  | .hbm, ⟨8, _⟩ => ⟨S1x7168, .bf16⟩
  | .hbm, ⟨9, _⟩ => ⟨S24576x7168, .fp8e4m3⟩
  | .hbm, ⟨10, _⟩ => ⟨S48x4x128, .f32⟩
  | .local _ .vmem, ⟨0, _⟩ => ⟨S1x4x128, .f32⟩
  | .local _ .vmem, ⟨1, _⟩ => ⟨S1x4x128, .f32⟩
  | .local _ .vmem, ⟨2, _⟩ => ⟨S512x2048, .fp8e4m3⟩
  | .local _ .vmem, ⟨3, _⟩ => ⟨S512x2048, .fp8e4m3⟩
  | .local _ .vmem, ⟨4, _⟩ => ⟨S7168x2048, .fp8e4m3⟩
  | .local _ .vmem, ⟨5, _⟩ => ⟨S1x7168, .f32⟩
  | .local _ .vmem, ⟨6, _⟩ => ⟨S1x7168, .bf16⟩
  | .local _ .vmem, ⟨7, _⟩ => ⟨S512x7168, .fp8e4m3⟩
  | .local _ .vmem, ⟨8, _⟩ => ⟨S512x7168, .fp8e4m3⟩
  | .local _ .vmem, ⟨9, _⟩ => ⟨S1x4x128, .f32⟩
  | .local _ .vmem, ⟨10, _⟩ => ⟨S1x4x128, .f32⟩
  | .local _ .vmem, ⟨11, _⟩ => ⟨S512x7168, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S3x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c48_i32 : BitVec 32 := 48#32
  let v4 : BitVec 1 := Scalar.cmpi .slt arg0 c48_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c48_i32_3 : BitVec 32 := 48#32
  let v8 : BitVec 1 := Scalar.cmpi .eq arg0 c48_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7168x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "ln_2" => some ((Real.log 2 : ℝ) : EReal)
  | "sqrt_half" => some (((Real.sqrt 2)⁻¹ : ℝ) : EReal)
  | _ => none
-- ==== ReferenceIdeal.lean ====
variable {F : FTy → Type} [FloatOps F] [Named F]
def κ : String → Option EReal := fun
  | "ln_2" => some ((Real.log 2 : ℝ) : EReal)
  | "sqrt_half" => some (((Real.sqrt 2)⁻¹ : ℝ) : EReal)
  | _ => none
-- ==== Reference.lean ====
abbrev S3x8192x2048 : Shape := ⟨3, ![3, 8192, 2048]⟩
abbrev S3x8192x1 : Shape := ⟨3, ![3, 8192, 1]⟩
abbrev S7168x2048 : Shape := ⟨2, ![7168, 2048]⟩
abbrev S7168 : Shape := ⟨1, ![7168]⟩
abbrev S24576x2048 : Shape := ⟨2, ![24576, 2048]⟩
abbrev S24576x1 : Shape := ⟨2, ![24576, 1]⟩
abbrev S1x7168 : Shape := ⟨2, ![1, 7168]⟩
abbrev S24576x7168 : Shape := ⟨2, ![24576, 7168]⟩
abbrev S48x4x128 : Shape := ⟨3, ![48, 4, 128]⟩
abbrev S24576 : Shape := ⟨1, ![24576]⟩

abbrev nBuf : Space → Nat
  | .hbm => 11
  | .vmem => 7
  | .smem => 0
  | _ => 0

abbrev bufTy : (tb : Table) → Fin (tcTables nBuf tb) → BufTy
  | .hbm, ⟨0, _⟩ => ⟨S3x8192x2048, .fp8e4m3⟩
  | .hbm, ⟨1, _⟩ => ⟨S3x8192x1, .f32⟩
  | .hbm, ⟨2, _⟩ => ⟨S7168x2048, .fp8e4m3⟩
  | .hbm, ⟨3, _⟩ => ⟨S7168, .f32⟩
  | .hbm, ⟨4, _⟩ => ⟨S7168, .bf16⟩
  | .hbm, ⟨5, _⟩ => ⟨S24576x2048, .fp8e4m3⟩
  | .hbm, ⟨6, _⟩ => ⟨S24576x1, .f32⟩
  | .hbm, ⟨7, _⟩ => ⟨S1x7168, .f32⟩
  | .hbm, ⟨8, _⟩ => ⟨S1x7168, .bf16⟩
  | .hbm, ⟨9, _⟩ => ⟨S24576x7168, .fp8e4m3⟩
  | .hbm, ⟨10, _⟩ => ⟨S48x4x128, .f32⟩
  | .local _ .vmem, ⟨0, _⟩ => ⟨S24576x2048, .fp8e4m3⟩
  | .local _ .vmem, ⟨1, _⟩ => ⟨S24576x1, .f32⟩
  | .local _ .vmem, ⟨2, _⟩ => ⟨S7168x2048, .fp8e4m3⟩
  | .local _ .vmem, ⟨3, _⟩ => ⟨S1x7168, .f32⟩
  | .local _ .vmem, ⟨4, _⟩ => ⟨S1x7168, .bf16⟩
  | .local _ .vmem, ⟨5, _⟩ => ⟨S24576x7168, .fp8e4m3⟩
  | .local _ .vmem, ⟨6, _⟩ => ⟨S48x4x128, .f32⟩
  | _, _ => ⟨S3x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scalar.lean ====
/-
  The mathematics of one element, over the extended reals, free of either program: the constant √½, the GELU in the
  kernel's scaling and in the reference's, the power of two with a given exponent field, and the exponent of a scale
  found by bisection against the one found from a logarithm.
-/
module

public import Idealize.ShloMosaic.PureOps.Ideal
public import Idealize.ShloMosaic.Lib.ValueIdx

@[expose] public section

noncomputable section

namespace Cert.Scalar

open Idealize.ShloMosaic

/-! ## The constant √½ -/

/-- √½ as the named constant reads: the inverse of √2. -/
def s : EReal := (((Real.sqrt 2)⁻¹ : ℝ) : EReal)

theorem s_pos : 0 < s := EReal.coe_pos.mpr (inv_pos.mpr (Real.sqrt_pos.mpr (by norm_num)))

theorem s_ne_top : s ≠ ⊤ := EReal.coe_ne_top _

/-- √½ · √½ = ½. -/
theorem s_mul_s : s * s = ((1 / 2 : ℝ) : EReal) := by
  unfold s
  rw [← EReal.coe_mul, ← mul_inv, Real.mul_self_sqrt (by norm_num)]
  norm_num

/-- Scaling by √½ distributes over every sum of extended reals. -/
theorem add_mul_s (x y : EReal) : (x + y) * s = x * s + y * s :=
  EReal.right_distrib_of_nonneg_of_ne_top s_pos.le s_ne_top x y

/-- Scaling by √½ preserves and reflects the order. -/
theorem mul_s_le_mul_s (x y : EReal) : x * s ≤ y * s ↔ x ≤ y := by
  constructor
  · intro h
    have hr : s * ((Real.sqrt 2 : ℝ) : EReal) = 1 := by
      unfold s
      rw [← EReal.coe_mul, inv_mul_cancel₀ (Real.sqrt_pos.mpr (by norm_num)).ne']
      rfl
    have h2 : (0 : EReal) ≤ ((Real.sqrt 2 : ℝ) : EReal) := EReal.coe_nonneg.mpr (Real.sqrt_nonneg 2)
    have h3 := mul_le_mul_of_nonneg_right h h2
    rwa [mul_assoc, hr, mul_one, mul_assoc, hr, mul_one] at h3
  · intro h
    exact mul_le_mul_of_nonneg_right h s_pos.le

/-! ## The GELU -/

/-- The kernel's GELU of a pre-activation already scaled by √½: `z + z · erf z`. -/
def scaledGelu (z : EReal) : EReal := z + z * Ideal.erf z

/-- The reference's GELU of a pre-activation: `½ · (h + h · erf (h · √½))`, the half given. -/
def gelu (half h : EReal) : EReal := half * (h + h * Ideal.erf (h * s))

/-- Of the scaled pre-activation the kernel's GELU, scaled once more, is the GELU. -/
theorem scaledGelu_mul_s (h : EReal) : scaledGelu (h * s) * s = gelu ((1 / 2 : ℝ) : EReal) h := by
  unfold scaledGelu gelu
  rw [mul_right_comm h s, ← add_mul_s, mul_assoc, s_mul_s, mul_comm]

/-- The kernel's scaled pre-activation is the pre-activation scaled. -/
theorem scaled_preact (a x w b : EReal) : a * x * (w * s) + b * s = (a * x * w + b) * s := by
  rw [add_mul_s, ← mul_assoc]

/-- A value's magnitude. -/
def mag (x : EReal) : EReal := max x (-x)

/-- A magnitude scaled by √½ is the scaled value's magnitude. -/
theorem mag_mul_s (x : EReal) : mag x * s = mag (x * s) := by
  unfold mag
  rw [← EReal.neg_mul]
  rcases le_total x (-x) with h | h
  · rw [max_eq_right h, max_eq_right ((mul_s_le_mul_s _ _).mpr h)]
  · rw [max_eq_left h, max_eq_left ((mul_s_le_mul_s _ _).mpr h)]

/-! ## Powers of two by their exponent field -/

/-- 2 to an integer. -/
def pow2 (k : ℤ) : EReal := (((2 : ℝ) ^ k : ℝ) : EReal)

/-- A positive normal pattern of exponent field `n` and zero fraction denotes 2 to the `n - 127`. -/
theorem ieee_of_exponent (b : BitVec 32) (n : ℕ) (h1 : 1 ≤ n) (h2 : n ≤ 254) (hs : b.extractLsb' 31 1 = 0#1)
    (he : (b.extractLsb' 23 8).toNat = n) (hf : (b.extractLsb' 0 23).toNat = 0) :
    Ideal.ieee 8 23 b = pow2 (n - 127) := by
  have hx : ¬ n = 2 ^ 8 - 1 := by omega
  have h0 : ¬ n = 0 := by omega
  have hneg : (b.extractLsb' (8 + 23) 1 == 1#1) = false := by
    show (b.extractLsb' 31 1 == 1#1) = false
    rw [hs]; rfl
  have hv : (1 : ℝ) * (2 ^ 23 + 0 : ℕ) * (2 : ℝ) ^ ((n : ℤ) - (2 ^ (8 - 1) - 1) - (23 : ℕ)) = (2 : ℝ) ^ ((n : ℤ) - 127) := by
    have e : ((2 ^ 23 + 0 : ℕ) : ℝ) = (2 : ℝ) ^ (23 : ℤ) := by norm_num
    rw [one_mul, e, ← zpow_add₀ (by norm_num)]
    congr 1
    push_cast
    ring
  unfold Ideal.ieee pow2
  dsimp only
  rw [he, hf, hneg, if_neg hx, if_neg h0, if_neg (by decide)]
  exact congrArg _ hv

/-- The float whose bits are `n` shifted to the exponent field is 2 to the `n - 127`, for a normal exponent field. -/
theorem ofBits_shift (n : ℕ) (h1 : 1 ≤ n) (h2 : n ≤ 254) :
    Ideal.ofBits .f32 (IntOp.shli .vector (BitVec.ofNat 32 n) 23#32) = pow2 (n - 127) := by
  have hsh : IntOp.shli .vector (BitVec.ofNat 32 n) 23#32 = BitVec.ofNat 32 n <<< 23#32 := by
    unfold IntOp.shli; exact if_pos (by decide)
  have hN : (BitVec.ofNat 32 n <<< 23#32).toNat = n * 2 ^ 23 := by
    rw [BitVec.shiftLeft_eq', BitVec.toNat_shiftLeft, BitVec.toNat_ofNat, Nat.shiftLeft_eq]
    show n % 2 ^ 32 * 2 ^ 23 % 2 ^ 32 = _
    omega
  have hs : (BitVec.ofNat 32 n <<< 23#32).extractLsb' 31 1 = 0#1 := by
    apply BitVec.eq_of_toNat_eq
    rw [BitVec.extractLsb'_toNat, hN, Nat.shiftRight_eq_div_pow]
    show n * 2 ^ 23 / 2 ^ 31 % 2 ^ 1 = 0
    omega
  have he : ((BitVec.ofNat 32 n <<< 23#32).extractLsb' 23 8).toNat = n := by
    rw [BitVec.extractLsb'_toNat, hN, Nat.shiftRight_eq_div_pow]
    omega
  have hf : ((BitVec.ofNat 32 n <<< 23#32).extractLsb' 0 23).toNat = 0 := by
    rw [BitVec.extractLsb'_toNat, hN, Nat.shiftRight_eq_div_pow]
    omega
  rw [hsh]
  exact ieee_of_exponent _ n h1 h2 hs he hf

end Cert.Scalar
-- ==== Proof.Exponent.lean ====
/-
  The exponent of a row's scale, of the scale's argument `q`: by bisection over the exponent fields, as the kernel finds
  it, and from the logarithm, as the reference does. Both are the same integer between −126 and 126.
-/
module

public import proofs.«01_k».proof.Proof.Scalar

@[expose] public section

noncomputable section

namespace Cert.Scalar

open Idealize.ShloMosaic

/-- A selection by a decided condition. -/
theorem select_ofBool {α : Type} (p : Prop) [Decidable p] (u v : α) :
    Scalar.select (BitVec.ofBool (decide p)) u v = if p then u else v := by
  unfold Scalar.select
  by_cases h : p <;> simp [h]

/-! ## The kernel's bisection -/

/-- One rung of the bisection: raise the exponent field `t` by `b` if the power of two there is at most `q`. -/
def rung (q : EReal) (t b : BitVec 32) : BitVec 32 :=
  Scalar.select (Ideal.cmp .oge q (Ideal.ofBits .f32 (IntOp.shli .vector (IntOp.addi t b) 23#32))) (IntOp.addi t b) t

/-- The exponent field the bisection ends at. -/
def ladder (q : EReal) : BitVec 32 :=
  rung q (rung q (rung q (rung q (rung q (rung q (rung q (rung q 0#32 125#32) 64#32) 32#32) 16#32) 8#32) 4#32) 2#32) 1#32

/-- The scale's exponent: the field less 126, zero for a zero argument. -/
def expo (q : EReal) : BitVec 32 :=
  Scalar.select (Ideal.cmp .oeq q (Ideal.ofBits .f32 0x00000000#32)) 0#32 (IntOp.subi (ladder q) 126#32)

/-- The scale: 2 to the exponent, by its bits. -/
def scaleOf (q : EReal) : EReal := Ideal.ofBits .f32 (IntOp.shli .vector (IntOp.addi (expo q) 127#32) 23#32)

/-- The scale's inverse: 2 to minus the exponent, by its bits. -/
def invOf (q : EReal) : EReal := Ideal.ofBits .f32 (IntOp.shli .vector (IntOp.subi 127#32 (expo q)) 23#32)

/-- A rung keeps the sought field `T` within `[t, t + width)` and halves the width. -/
theorem rung_step (q : EReal) (T : ℕ) (hT : T ≤ 252)
    (hq : ∀ n : ℕ, 1 ≤ n → n ≤ 252 → (pow2 ((n : ℤ) - 127) ≤ q ↔ n ≤ T))
    (a b w : ℕ) (hb : 1 ≤ b) (hab : a + b ≤ 252) (h1 : a ≤ T) (h2 : T < a + w) :
    ∃ a' : ℕ, rung q (BitVec.ofNat 32 a) (BitVec.ofNat 32 b) = BitVec.ofNat 32 a' ∧ a' ≤ T ∧ a' ≤ a + b
      ∧ (a' = a ∧ T < a + b ∨ a' = a + b ∧ T < a + w) := by
  have hadd : IntOp.addi (BitVec.ofNat 32 a) (BitVec.ofNat 32 b) = BitVec.ofNat 32 (a + b) := by
    unfold IntOp.addi; exact (BitVec.ofNat_add a b).symm
  have hthr := hq (a + b) (by omega) hab
  have hcmp : rung q (BitVec.ofNat 32 a) (BitVec.ofNat 32 b)
      = if pow2 (((a + b : ℕ) : ℤ) - 127) ≤ q then BitVec.ofNat 32 (a + b) else BitVec.ofNat 32 a := by
    unfold rung
    rw [hadd, ofBits_shift (a + b) (by omega) (by omega)]
    exact select_ofBool _ _ _
  rw [hcmp]
  by_cases h : pow2 (((a + b : ℕ) : ℤ) - 127) ≤ q
  · rw [if_pos h]
    exact ⟨a + b, rfl, hthr.mp h, le_rfl, Or.inr ⟨rfl, h2⟩⟩
  · rw [if_neg h]
    exact ⟨a, rfl, h1, by omega, Or.inl ⟨rfl, not_le.mp fun hc => h (hthr.mpr hc)⟩⟩

/-- The bisection ends at the greatest field whose power of two is at most `q`. -/
theorem ladder_eq (q : EReal) (T : ℕ) (hT : T ≤ 252)
    (hq : ∀ n : ℕ, 1 ≤ n → n ≤ 252 → (pow2 ((n : ℤ) - 127) ≤ q ↔ n ≤ T)) : ladder q = BitVec.ofNat 32 T := by
  have step := rung_step q T hT hq
  obtain ⟨a1, e1, l1, m1, c1⟩ := step 0 125 253 (by omega) (by omega) (by omega) (by omega)
  obtain ⟨a2, e2, l2, m2, c2⟩ := step a1 64 128 (by omega) (by omega) l1 (by omega)
  obtain ⟨a3, e3, l3, m3, c3⟩ := step a2 32 64 (by omega) (by omega) l2 (by omega)
  obtain ⟨a4, e4, l4, m4, c4⟩ := step a3 16 32 (by omega) (by omega) l3 (by omega)
  obtain ⟨a5, e5, l5, m5, c5⟩ := step a4 8 16 (by omega) (by omega) l4 (by omega)
  obtain ⟨a6, e6, l6, m6, c6⟩ := step a5 4 8 (by omega) (by omega) l5 (by omega)
  obtain ⟨a7, e7, l7, m7, c7⟩ := step a6 2 4 (by omega) (by omega) l6 (by omega)
  obtain ⟨a8, e8, l8, m8, c8⟩ := step a7 1 2 (by omega) (by omega) l7 (by omega)
  unfold ladder
  rw [e1, e2, e3, e4, e5, e6, e7, e8]
  exact congrArg _ (by omega)

/-! ## The reference's logarithm -/

/-- The exponent from the logarithm: `⌊ln q / ln 2⌋ + 1` within `[−126, 126]`. -/
def logExpo (q : EReal) : EReal :=
  min 126 (max (-126) (Ideal.liftRound Int.floor (Ideal.div (Ideal.log q) ((Real.log 2 : ℝ) : EReal)) + 1))

/-- A power of two is at most a positive real when its exponent is at most the logarithm's floor. -/
theorem zpow_le_iff (x : ℝ) (hx : 0 < x) (k : ℤ) : (2 : ℝ) ^ k ≤ x ↔ k ≤ ⌊Real.log x * (Real.log 2)⁻¹⌋ := by
  have hl : 0 < Real.log 2 := Real.log_pos (by norm_num)
  rw [Int.le_floor, ← div_eq_mul_inv, le_div_iff₀ hl, ← Real.log_zpow, Real.log_le_log_iff (by positivity) hx]

/-- Of a positive argument the exponent from the logarithm is the bisection's field less 126. -/
theorem logExpo_eq (q : EReal) (h : 0 < q) : ∃ T : ℕ, T ≤ 252
    ∧ (∀ n : ℕ, 1 ≤ n → n ≤ 252 → (pow2 ((n : ℤ) - 127) ≤ q ↔ n ≤ T))
    ∧ logExpo q = ((((T : ℤ) - 126 : ℤ) : ℝ) : EReal) := by
  have hl : Real.log 2 ≠ 0 := (Real.log_pos (by norm_num)).ne'
  have h126 : (126 : EReal) = ((126 : ℝ) : EReal) := rfl
  have h1 : (1 : EReal) = ((1 : ℝ) : EReal) := rfl
  have hdiv : ∀ x : EReal, Ideal.div x ((Real.log 2 : ℝ) : EReal) = x * (((Real.log 2)⁻¹ : ℝ) : EReal) := by
    intro x
    unfold Ideal.div
    rw [if_neg (by exact_mod_cast hl), EReal.coe_inv]
  induction q using EReal.rec with
  | bot => exact absurd h (by simp)
  | top =>
    refine ⟨252, le_rfl, fun n _ hn => ⟨fun _ => hn, fun _ => le_top⟩, ?_⟩
    unfold logExpo
    rw [hdiv]
    show min 126 (max (-126) (Ideal.liftRound Int.floor (⊤ * (((Real.log 2)⁻¹ : ℝ) : EReal)) + 1)) = _
    rw [EReal.top_mul_coe_of_pos (inv_pos.mpr (Real.log_pos (by norm_num)))]
    show min 126 (max (-126) (⊤ + 1)) = _
    rw [h1, EReal.top_add_coe, max_eq_right le_top, min_eq_left le_top, h126]
    norm_num
  | coe x =>
    have hx : 0 < x := by exact_mod_cast h
    set L : ℤ := ⌊Real.log x * (Real.log 2)⁻¹⌋ with hL
    refine ⟨(min 252 (max 0 (L + 127))).toNat, by omega, ?_, ?_⟩
    · intro n hn1 hn2
      unfold pow2
      rw [EReal.coe_le_coe_iff, zpow_le_iff x hx, ← hL]
      omega
    · have hlog : Ideal.log (x : EReal) = ((Real.log x : ℝ) : EReal) := by
        show (if x ≤ 0 then (⊥ : EReal) else ((Real.log x : ℝ) : EReal)) = _
        rw [if_neg (not_le.mpr hx)]
      unfold logExpo
      rw [hdiv, hlog, ← EReal.coe_mul]
      show min 126 (max (-126) (((L : ℝ) : EReal) + 1)) = _
      have hT : (((min 252 (max 0 (L + 127))).toNat : ℤ) - 126 : ℤ) = min 126 (max (-126) (L + 1)) := by omega
      have hmax : ∀ u v : ℝ, ((max u v : ℝ) : EReal) = max (u : EReal) v := fun u v => EReal.coe_strictMono.monotone.map_max
      have hmin : ∀ u v : ℝ, ((min u v : ℝ) : EReal) = min (u : EReal) v := fun u v => EReal.coe_strictMono.monotone.map_min
      rw [hT, h126, h1, ← EReal.coe_add, ← EReal.coe_neg, ← hmax, ← hmin]
      push_cast
      rfl

/-! ## The two agree -/

/-- The reference's exponent of a row whose greatest magnitude is `a`, the scale's argument `q`. -/
def refExpo (a q : EReal) : EReal := Scalar.select (Ideal.cmp .oeq a 0) 0 (logExpo q)

theorem select_eq (x y u v : EReal) : Scalar.select (Ideal.cmp .oeq x y) u v = if x = y then u else v := by
  exact select_ofBool _ _ _

theorem expo_eq (q : EReal) (hz : Ideal.ofBits .f32 0x00000000#32 = 0) :
    expo q = if q = 0 then 0#32 else IntOp.subi (ladder q) 126#32 := by
  unfold expo
  rw [hz]
  exact select_ofBool _ _ _

/-- The kernel's scale is 2 to the reference's exponent, and its inverse 2 to minus that exponent. -/
theorem scale_inv_eq (a q : EReal) (hz : Ideal.ofBits .f32 0x00000000#32 = 0) (hq : 0 ≤ q) (haq : a = 0 ↔ q = 0) :
    scaleOf q = Ideal.exp2 (refExpo a q) ∧ invOf q = Ideal.exp2 (0 - refExpo a q) := by
  have hexp : ∀ k : ℤ, Ideal.exp2 ((k : ℝ) : EReal) = pow2 k := by
    intro k
    show ((Real.rpow 2 (k : ℝ) : ℝ) : EReal) = _
    unfold pow2
    exact congrArg _ (Real.rpow_intCast 2 k)
  obtain ⟨n, k, hn1, hn2, hs, hi, hr, hk1, hk2⟩ : ∃ (n : ℕ) (k : ℤ), 1 ≤ n ∧ n ≤ 253
      ∧ IntOp.addi (expo q) 127#32 = BitVec.ofNat 32 n ∧ IntOp.subi 127#32 (expo q) = BitVec.ofNat 32 (254 - n)
      ∧ refExpo a q = ((k : ℝ) : EReal) ∧ (n : ℤ) - 127 = k ∧ ((254 - n : ℕ) : ℤ) - 127 = -k := by
    unfold refExpo
    rw [expo_eq q hz, select_eq]
    by_cases h0 : q = 0
    · rw [if_pos h0, if_pos (haq.mpr h0)]
      exact ⟨127, 0, by omega, by omega, by decide, by decide, by norm_num, by norm_num, by norm_num⟩
    · rw [if_neg h0, if_neg fun hc => h0 (haq.mp hc)]
      obtain ⟨T, hT, hthr, hlog⟩ := logExpo_eq q (lt_of_le_of_ne hq (Ne.symm h0))
      rw [ladder_eq q T hT hthr, hlog]
      refine ⟨T + 1, (T : ℤ) - 126, by omega, by omega, ?_, ?_, rfl, by push_cast; ring, by omega⟩
      · unfold IntOp.addi IntOp.subi
        apply BitVec.eq_of_toNat_eq
        simp only [BitVec.toNat_add, BitVec.toNat_sub, BitVec.toNat_ofNat]
        omega
      · unfold IntOp.subi
        apply BitVec.eq_of_toNat_eq
        simp only [BitVec.toNat_sub, BitVec.toNat_ofNat]
        omega
  unfold scaleOf invOf
  rw [hs, hi, ofBits_shift n hn1 (by omega), ofBits_shift (254 - n) (by omega) (by omega), hr, hk1, hk2, hexp,
    zero_sub, ← EReal.coe_neg, ← Int.cast_neg, hexp]
  exact ⟨rfl, rfl⟩

end Cert.Scalar
-- ==== Proof.Chunk.lean ====
/-
  What the kernel's arithmetic makes of one chunk of 1024 columns of a tile: the pre-activation over √2, its gelu over
  √2, and the running maximum of its magnitudes, at an index.
-/
module

public import proofs.«01_k».proof.Proof.Gen.KernelIdeal.Value
public import proofs.«01_k».proof.Proof.Exponent
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- The named constant is √2's reciprocal. -/
theorem named_s : (Named.named κ "sqrt_half" 0x3F3504F3#32 : Ideal .f32) = Cert.Scalar.s :=
  IdealRules.named_const.ideal_named_scalar _ _ _ _ rfl

/-- Eight copies of a 128-lane vector side by side, at an index: the lane is the column modulo 128. -/
theorem lanes_apply (v : Vec Ideal S512x128 .f32) (h) (j : S512x1024.Idx) :
    concatenate S512x1024 1 [⟨S512x128, v⟩, ⟨S512x128, v⟩, ⟨S512x128, v⟩, ⟨S512x128, v⟩, ⟨S512x128, v⟩, ⟨S512x128, v⟩,
      ⟨S512x128, v⟩, ⟨S512x128, v⟩] h j = v (ix2 (j 0) ⟨(j 1).val % 128, Nat.mod_lt _ (by norm_num)⟩) := by
  have hj : (j 1).val < 1024 := (j 1).isLt
  refine concatenate_ofFn_apply (N := 8) 1 (fun _ => v) h rfl 128 rfl j ⟨(j 1).val / 128, by omega⟩ rfl _ rfl ?_
  intro b hb
  fin_cases b
  · rfl
  · exact absurd rfl hb

/-- One chunk's gelu over √2, of the tile's rows, the chunk's rows of the weights, the row scales spread over the lanes,
the chunk's weight scales and its bias. -/
theorem chunk_apply (X : Vec Ideal S512x2048 .fp8e4m3) (W : Vec Ideal S1024x2048 .fp8e4m3) (V : Vec Ideal S512x128 .f32)
    (S : Vec Ideal S1x1024 .f32) (B : Vec Ideal S1x1024 .bf16) (j : S512x1024.Idx) :
    k0_pay15 X W V S B j = Cert.Scalar.scaledGelu
      ((∑ k : Fin 2048, X (ix2 (j 0) k) * W (ix2 (j 1) k)) * V (ix2 (j 0) ⟨(j 1).val % 128, Nat.mod_lt _ (by norm_num)⟩)
        * (S (ix2 0 (j 1)) * Cert.Scalar.s) + B (ix2 0 (j 1)) * Cert.Scalar.s) := by
  unfold k0_pay15
  dsimp only
  rw [show concatenate S512x1024 1 [⟨S512x128, V⟩, ⟨S512x128, V⟩, ⟨S512x128, V⟩, ⟨S512x128, V⟩, ⟨S512x128, V⟩,
    ⟨S512x128, V⟩, ⟨S512x128, V⟩, ⟨S512x128, V⟩] _ = _ from funext (lanes_apply V _)]
  pointwise [named_s]
  rfl

/-- The maximum of a chunk's magnitudes over its eight groups of lanes is at most `b` where every magnitude on the lane
is. -/
theorem chunkMax_le (X : Vec Ideal S512x2048 .fp8e4m3) (W : Vec Ideal S1024x2048 .fp8e4m3) (V : Vec Ideal S512x128 .f32)
    (S : Vec Ideal S1x1024 .f32) (B : Vec Ideal S1x1024 .bf16) (i : S512x128.Idx) (b : EReal) :
    k0_pay17 X W V S B i ≤ b ↔ ∀ c : Fin 1024, c.val % 128 = (i 1).val →
      Cert.Scalar.mag (k0_pay15 X W V S B (ix2 (i 0) c)) ≤ b := by
  have hi : (i 1).val < 128 := (i 1).isLt
  unfold k0_pay17
  dsimp only
  generalize k0_pay15 X W V S B = G
  pointwise
  simp only [max_le_iff]
  constructor
  · rintro ⟨⟨⟨⟨⟨⟨⟨h0, h1⟩, h2⟩, h3⟩, h4⟩, h5⟩, h6⟩, h7⟩ c hc
    have hc' : c.val < 1024 := c.isLt
    have key : ∀ n : Fin 1024, Cert.Scalar.mag (G (ix2 (i 0) n)) ≤ b → c.val = n.val →
        Cert.Scalar.mag (G (ix2 (i 0) c)) ≤ b := fun n hb e => by rw [Fin.ext e]; exact hb
    rcases (by omega : c.val = (i 1).val ∨ c.val = 128 + (i 1).val ∨ c.val = 256 + (i 1).val ∨ c.val = 384 + (i 1).val ∨
        c.val = 512 + (i 1).val ∨ c.val = 640 + (i 1).val ∨ c.val = 768 + (i 1).val ∨ c.val = 896 + (i 1).val)
      with h | h | h | h | h | h | h | h
    exacts [key _ h0 h, key _ h1 h, key _ h2 h, key _ h3 h, key _ h4 h, key _ h5 h, key _ h6 h, key _ h7 h]
  · intro h
    refine ⟨⟨⟨⟨⟨⟨⟨?_, ?_⟩, ?_⟩, ?_⟩, ?_⟩, ?_⟩, ?_⟩, ?_⟩ <;> exact h _ (by dsimp only; omega)

/-- The first chunk's stored maximum. -/
theorem firstMax_eq (X : Vec Ideal S512x2048 .fp8e4m3) (W : Vec Ideal S1024x2048 .fp8e4m3) (V : Vec Ideal S512x128 .f32)
    (S : Vec Ideal S1x1024 .f32) (B : Vec Ideal S1x1024 .bf16) : k0_pay14 (k0_pay11 X) W V S B = k0_pay17 X W V S B := by
  have e : k0_pay14 (k0_pay11 X) W V S B = shapeCast S512x128 (k0_pay17 X W V S B) shapeCasts_S512x128_S512x128 := rfl
  rw [e]
  generalize k0_pay17 X W V S B = M
  funext y
  pointwise

end Cert.KernelIdeal.Gen
-- ==== Proof.Constants.lean ====
/-
  The float constants of both programs, as the extended reals their patterns denote, and the values of the two named
  constants.
-/
module

public import proofs.«01_k».proof.Proof.Scalar

@[expose] public section

noncomputable section

namespace Cert.Constants

open Idealize.ShloMosaic

theorem zero_eq : Ideal.ofBits .f32 0x00000000#32 = 0 := by
  simp [Ideal.ofBits, Ideal.ieee, -EReal.coe_mul]

theorem one_eq : Ideal.ofBits .f32 0x3F800000#32 = 1 := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem pos126_eq : Ideal.ofBits .f32 0x42FC0000#32 = 126 := by
  show _ = ((126 : ℝ) : EReal)
  simp [Ideal.ofBits, Ideal.ieee, -EReal.coe_mul]; norm_num

theorem neg126_eq : Ideal.ofBits .f32 0xC2FC0000#32 = -126 := by
  show _ = -((126 : ℝ) : EReal)
  rw [← EReal.coe_neg]
  simp [Ideal.ofBits, Ideal.ieee, -EReal.coe_mul, -EReal.coe_neg]; norm_num

theorem ninf_eq : Ideal.ofBits .f32 0xFF800000#32 = ⊥ := by
  simp [Ideal.ofBits, Ideal.ieee, -EReal.coe_mul]

/-- The constant 1/448, as its float reads. -/
def recip448 : EReal := Ideal.ofBits .f32 0x3B124925#32

/-- It is a positive real. -/
theorem recip448_pos : ∃ r : ℝ, 0 < r ∧ recip448 = (r : EReal) := by
  refine ⟨(2 ^ 23 + 1198373) * 2 ^ (-32 : ℤ), by positivity, ?_⟩
  unfold recip448
  simp [Ideal.ofBits, Ideal.ieee, -EReal.coe_mul]; norm_num

end Cert.Constants
-- ==== Proof.RowScale.lean ====
/-
  What the kernel makes of a tile's row maxima: the scale of a group of 128 rows, and its reciprocal times √½ spread
  over the lanes, at an index.
-/
module

public import proofs.«01_k».proof.Proof.Chunk
public import proofs.«01_k».proof.Proof.Constants

@[expose] public section

set_option maxRecDepth 16384

noncomputable section

namespace Cert.KernelIdeal.Gen

open Idealize.ShloMosaic Idealize.ShloMosaic.TcCoe Idealize.ShloMosaic.Tactic

/-- The scale's argument for a row whose magnitudes over √2 have maximum `m`. -/
def scaleArg (m : EReal) : EReal := m * Cert.Scalar.s * Cert.Constants.recip448

/-- A row's maximum over the lanes. -/
def laneMax {n : ℕ} (v : Vec Ideal ⟨2, ![n, 128]⟩ .f32) (r : Fin n) : EReal :=
  Finset.univ.fold max ⊥ fun l : Fin 128 => v (ix2 r l)

theorem scaleArg_apply (v : Vec Ideal S128x128 .f32) (y : S128x128.Idx) :
    k0_pay42 v y = scaleArg (laneMax v (y 0)) := by
  unfold k0_pay42
  dsimp only
  pointwise [named_s]
  rw [Cert.Constants.ninf_eq]
  rfl

/-- One rung of the bisection, on a vector. -/
def vrung (A : FVec Ideal S128x128 .f32) (T : IVec S128x128 32) (b : BitVec 32) : IVec S128x128 32 :=
  select (cmpf .oge A (bitcastToFloat .f32 (shli (addi T (broadcast S128x128 b)) (broadcast S128x128 23#32))))
    (addi T (broadcast S128x128 b)) T

theorem vrung_apply (A : FVec Ideal S128x128 .f32) (T : IVec S128x128 32) (b : BitVec 32) (y : S128x128.Idx) :
    vrung A T b y = Cert.Scalar.rung (A y) (T y) b := rfl

/-- The bisection's eight rungs, on a vector. -/
def vladder (A : FVec Ideal S128x128 .f32) : IVec S128x128 32 :=
  vrung A (vrung A (vrung A (vrung A (vrung A (vrung A (vrung A (vrung A (broadcast S128x128 0#32) 125#32) 64#32) 32#32)
    16#32) 8#32) 4#32) 2#32) 1#32

theorem vladder_apply (A : FVec Ideal S128x128 .f32) (y : S128x128.Idx) : vladder A y = Cert.Scalar.ladder (A y) := by
  unfold vladder Cert.Scalar.ladder
  simp only [vrung_apply]
  rfl

/-- The kernel's exponents are the bisection's. -/
theorem expo_vec (v : Vec Ideal S128x128 .f32) :
    k0_pay45 (k0_pay42 v) (k0_pay43 v) (k0_pay44 v) = subi (vladder (k0_pay42 v)) (broadcast S128x128 126#32) := by
  unfold k0_pay45 k0_pay44 k0_pay43 vladder
  dsimp only
  generalize k0_pay42 v = A
  have hr : ∀ T b, select (cmpf .oge A (bitcastToFloat .f32 (shli (addi T (broadcast S128x128 b)) (broadcast S128x128 23#32))))
    (addi T (broadcast S128x128 b)) T = vrung A T b := fun _ _ => rfl
  simp only [hr]

theorem expo_apply (v : Vec Ideal S128x128 .f32) (y : S128x128.Idx) :
    k0_pay48 (k0_pay45 (k0_pay42 v) (k0_pay43 v) (k0_pay44 v)) (k0_pay46 (k0_pay42 v)) k0_pay47 y
      = Cert.Scalar.expo (scaleArg (laneMax v (y 0))) := by
  rw [expo_vec, ← scaleArg_apply]
  generalize k0_pay42 v = A
  unfold Cert.Scalar.expo
  rw [← vladder_apply]
  rfl

/-- A tile of 128 rows' inverse scales times √½, of their maxima. -/
def invTile (v : Vec Ideal S128x128 .f32) : FVec Ideal S128x128 .f32 :=
  k0_pay49 (k0_pay45 (k0_pay42 v) (k0_pay43 v) (k0_pay44 v)) (k0_pay46 (k0_pay42 v)) k0_pay47

/-- A tile of 128 rows' scales, of their maxima. -/
def scaleTile (v : Vec Ideal S128x128 .f32) : FVec Ideal S1x1x128 .f32 :=
  k0_pay50 (k0_pay45 (k0_pay42 v) (k0_pay43 v) (k0_pay44 v)) (k0_pay46 (k0_pay42 v)) k0_pay47

theorem invTile_apply (v : Vec Ideal S128x128 .f32) (y : S128x128.Idx) :
    invTile v y = Cert.Scalar.invOf (scaleArg (laneMax v (y 0))) * Cert.Scalar.s := by
  unfold Cert.Scalar.invOf
  rw [← expo_apply]
  unfold invTile k0_pay49
  pointwise [named_s]

theorem scaleTile_apply (v : Vec Ideal S128x128 .f32) (y : S1x1x128.Idx) :
    scaleTile v y = Cert.Scalar.scaleOf (scaleArg (laneMax v (y 2))) := by
  have e : _ = Cert.Scalar.expo (scaleArg (laneMax v (y 2))) := expo_apply v (ix2 (y 2) 0)
  unfold Cert.Scalar.scaleOf
  rw [← e]
  unfold scaleTile k0_pay50
  pointwise

end Cert.KernelIdeal.Gen
-- ==== Proof.TileChunk.lean ====
/-
  What the kernel computes of one chunk of a tile, in terms of the tile's blocks: the gelu over √2 of every row and
  column of the tile, and one step of the running maximum.
-/
module

public import proofs.«01_k».proof.Proof.RowScale
public import Idealize.ShloMosaic.Lib.Pipeline.ValueKit.Acc

@[expose] public section

set_option maxRecDepth 16384

noncomputable section

namespace Cert.KernelIdeal.Gen

open Idealize.ShloMosaic Idealize.ShloMosaic.TcCoe Idealize.ShloMosaic.Tactic

/-- A tile's gelu over √2: row `r`, column `n` of the tile of the blocks `x0` (row scales), `x1` (rows), `x2` (weights),
`x3` (weight scales) and `x4` (bias). -/
def tileG (x0 : Vec Ideal S1x4x128 .f32) (x1 : Vec Ideal S512x2048 .fp8e4m3) (x2 : Vec Ideal S7168x2048 .fp8e4m3)
    (x3 : Vec Ideal S1x7168 .f32) (x4 : Vec Ideal S1x7168 .bf16) (y : S512x7168.Idx) : EReal :=
  Cert.Scalar.scaledGelu ((∑ k : Fin 2048, x1 (ix2 (y 0) k) * x2 (ix2 (y 1) k))
      * x0 (ix3 0 ⟨(y 0).val / 128, Nat.div_lt_of_lt_mul (y 0).isLt⟩ ⟨(y 0).val % 128, Nat.mod_lt _ (by norm_num)⟩)
      * (x3 (ix2 0 (y 1)) * Cert.Scalar.s) + x4 (ix2 0 (y 1)) * Cert.Scalar.s)

/-- A coordinate of a box of unit stride, in the array it is cut from. -/
theorem unit_val {S : Shape} (off size : Fin S.rank → ℕ) (inb) (x : (Rect.unit off size inb).shape.Idx) (a : Fin S.rank) :
    ((Rect.unit off size inb).emb x a : ℕ) = off a + x a := by
  show off a + 1 * (x a : ℕ) = _
  omega

section

variable (arg1 : Memref sig .tc .vmem S1x4x128 .f32) (harg1 : arg1.IsWhole)
  (arg2 : Memref sig .tc .vmem S512x2048 .fp8e4m3) (harg2 : arg2.IsWhole)
  (arg3 : Memref sig .tc .vmem S7168x2048 .fp8e4m3) (harg3 : arg3.IsWhole)
  (arg4 : Memref sig .tc .vmem S1x7168 .f32) (harg4 : arg4.IsWhole)
  (arg5 : Memref sig .tc .vmem S1x7168 .bf16) (harg5 : arg5.IsWhole)
  (arg11 : Memref sig .tc .vmem S512x128 .f32)
  (x0 : Vec Ideal S1x4x128 .f32) (x1 : Vec Ideal S512x2048 .fp8e4m3) (x2 : Vec Ideal S7168x2048 .fp8e4m3)
  (x3 : Vec Ideal S1x7168 .f32) (x4 : Vec Ideal S1x7168 .bf16)

/-- A load of one block, at an index. -/
theorem readAt_unread_apply {S : Shape} {e : EltTy} (m : Memref sig .tc .vmem S e) (h : m.IsWhole) (X : S.Idx → Elt Ideal e)
    (off size : Fin S.rank → ℕ) (inb) (x) (i : S.Idx) (hi : ∀ a, (i a : ℕ) = off a + x a) :
    View.readAt (Elt Ideal) m.view (Rect.unit off size inb).toLoadRect (h.unread X) x = X i := by
  rw [View.readAt_eq_ld, Memref.IsWhole.read_unread]
  exact congrArg X (funext fun a => Fin.ext ((unit_val off size inb x a).trans (hi a).symm))

/-- The row scales of one group of 128 rows, spread over the lanes. -/
abbrev xsbPiece (t : ℕ)
    (inb : ∀ a, (![0, t, 0] : Fin 3 → ℕ) a + S1x1x128.size a ≤ S1x4x128.size a) : FVec Ideal S128x128 .f32 :=
  k0_pay7 (View.readAt (Elt Ideal) arg1.view (Rect.unit (s := S1x4x128) ![0, t, 0] S1x1x128.size inb).toLoadRect (harg1.unread x0))

theorem xsbPiece_apply (t : ℕ) (ht : t < 4) (inb) (y : S128x128.Idx) :
    xsbPiece arg1 harg1 x0 t inb y = x0 (ix3 0 ⟨t, ht⟩ (y 0)) := by
  unfold xsbPiece k0_pay7
  dsimp only
  pointwise
  refine readAt_unread_apply arg1 harg1 x0 _ _ _ _ _ ?_
  intro a
  fin_cases a <;> simp

/-- The row scales of the tile, spread over the lanes. -/
abbrev xsbRead : Vec Ideal S512x128 .f32 :=
  arg11.view.readCov
    [(⟨Rect.unit ![384, 0] S128x128.size inb_S512x128_S128x128_384_0, xsbPiece arg1 harg1 x0 3 inb_S1x4x128_S1x1x128_0_3_0⟩ :
        View.Piece (Elt Ideal) S512x128 .f32),
      ⟨Rect.unit ![256, 0] S128x128.size inb_S512x128_S128x128_256_0, xsbPiece arg1 harg1 x0 2 inb_S1x4x128_S1x1x128_0_2_0⟩,
      ⟨Rect.unit ![128, 0] S128x128.size inb_S512x128_S128x128_128_0, xsbPiece arg1 harg1 x0 1 inb_S1x4x128_S1x1x128_0_1_0⟩,
      ⟨Rect.unit ![0, 0] S128x128.size inb_S512x128_S128x128_0_0, xsbPiece arg1 harg1 x0 0 inb_S1x4x128_S1x1x128_0_0_0⟩]
    (Rect.unit ![0, 0] S512x128.size inb_S512x128_S512x128_0_0).toLoadRect

theorem xsbRead_apply (y : S512x128.Idx) :
    xsbRead arg1 harg1 arg11 x0 y
      = x0 (ix3 0 ⟨(y 0).val / 128, Nat.div_lt_of_lt_mul (y 0).isLt⟩ ⟨(y 0).val % 128, Nat.mod_lt _ (by norm_num)⟩) := by
  unfold xsbRead
  have hcov : ∀ z : S512x128.Idx, ∃ p ∈ ([(⟨Rect.unit ![384, 0] S128x128.size inb_S512x128_S128x128_384_0, xsbPiece arg1 harg1 x0 3 inb_S1x4x128_S1x1x128_0_3_0⟩ :
        View.Piece (Elt Ideal) S512x128 .f32),
      ⟨Rect.unit ![256, 0] S128x128.size inb_S512x128_S128x128_256_0, xsbPiece arg1 harg1 x0 2 inb_S1x4x128_S1x1x128_0_2_0⟩,
      ⟨Rect.unit ![128, 0] S128x128.size inb_S512x128_S128x128_128_0, xsbPiece arg1 harg1 x0 1 inb_S1x4x128_S1x1x128_0_1_0⟩,
      ⟨Rect.unit ![0, 0] S128x128.size inb_S512x128_S128x128_0_0, xsbPiece arg1 harg1 x0 0 inb_S1x4x128_S1x1x128_0_0_0⟩] :
        List (View.Piece (Elt Ideal) S512x128 .f32)), z ∈ p.1.set :=
    fun z => View.cover_of_tiledL (s := S512x128) _ S128x128.size (by sl_kernel_rfl) z
  rw [View.readCov_eq_canon_ld _ _ _ hcov, View.ld_unit_zero (by funext a; fin_cases a <;> rfl)]
  refine View.canon_apply_of_pieces (Val := Elt Ideal) (S := S512x128) (e := .f32)
    (fun y => x0 (ix3 0 ⟨(y 0).val / 128, Nat.div_lt_of_lt_mul (y 0).isLt⟩ ⟨(y 0).val % 128, Nat.mod_lt _ (by norm_num)⟩))
    _ ?_ y (hcov y)
  intro pc hpc
  have key : ∀ (t : ℕ) (ht : t < 4) (inb) (off) (inb') (hoff : off 0 = 128 * t) (x : S128x128.Idx),
      xsbPiece arg1 harg1 x0 t inb x = x0 (ix3 0
        ⟨((Rect.unit (s := S512x128) off S128x128.size inb').emb x 0).val / 128, Nat.div_lt_of_lt_mul (Fin.isLt _)⟩
        ⟨((Rect.unit (s := S512x128) off S128x128.size inb').emb x 0).val % 128, Nat.mod_lt _ (by norm_num)⟩) := by
    intro t ht inb off inb' hoff x
    rw [xsbPiece_apply _ _ _ t ht]
    have hx : (x 0).val < 128 := (x 0).isLt
    have e : ((Rect.unit (s := S512x128) off S128x128.size inb').emb x 0).val = 128 * t + (x 0).val := by
      rw [← hoff]; exact unit_val _ _ _ _ _
    have aux : ∀ n : Fin 512, n.val = 128 * t + (x 0).val → x0 (ix3 0 ⟨t, ht⟩ (x 0))
        = x0 (ix3 0 ⟨n.val / 128, Nat.div_lt_of_lt_mul n.isLt⟩ ⟨n.val % 128, Nat.mod_lt _ (by norm_num)⟩) := by
      intro n hn
      refine congrArg x0 (congr (congrArg _ (Fin.ext ?_)) (Fin.ext ?_))
      · show t = n.val / 128
        omega
      · show (x 0).val = n.val % 128
        omega
    exact aux _ e
  rcases List.mem_cons.mp hpc with rfl | hpc
  · exact key 3 (by norm_num) _ _ inb_S512x128_S128x128_384_0 rfl
  rcases List.mem_cons.mp hpc with rfl | hpc
  · exact key 2 (by norm_num) _ _ inb_S512x128_S128x128_256_0 rfl
  rcases List.mem_cons.mp hpc with rfl | hpc
  · exact key 1 (by norm_num) _ _ inb_S512x128_S128x128_128_0 rfl
  rcases List.mem_cons.mp hpc with rfl | hpc
  · exact key 0 (by norm_num) _ _ inb_S512x128_S128x128_0_0 rfl
  exact absurd hpc List.not_mem_nil

/-- Both factors of the chunk's product, its weight scales and its bias, as the kernel loads them. -/
abbrev rowsRead : Vec Ideal S512x2048 .fp8e4m3 :=
  View.readAt (Elt Ideal) arg2.view (Rect.unit ![0, 0] S512x2048.size inb_S512x2048_S512x2048_0_0).toLoadRect (harg2.unread x1)

abbrev weightsRead (o : ℕ) (inb : ∀ a, (![o, 0] : Fin 2 → ℕ) a + S1024x2048.size a ≤ S7168x2048.size a) :
    Vec Ideal S1024x2048 .fp8e4m3 :=
  View.readAt (Elt Ideal) arg3.view (Rect.unit (s := S7168x2048) ![o, 0] S1024x2048.size inb).toLoadRect (harg3.unread x2)

abbrev wscaleRead (o : ℕ) (inb : ∀ a, (![0, o] : Fin 2 → ℕ) a + S1x1024.size a ≤ S1x7168.size a) : Vec Ideal S1x1024 .f32 :=
  View.readAt (Elt Ideal) arg4.view (Rect.unit (s := S1x7168) ![0, o] S1x1024.size inb).toLoadRect (harg4.unread x3)

abbrev biasRead (o : ℕ) (inb : ∀ a, (![0, o] : Fin 2 → ℕ) a + S1x1024.size a ≤ S1x7168.size a) : Vec Ideal S1x1024 .bf16 :=
  View.readAt (Elt Ideal) arg5.view (Rect.unit (s := S1x7168) ![0, o] S1x1024.size inb).toLoadRect (harg5.unread x4)

/-- A chunk's gelu over √2 is the tile's, at the chunk's columns. -/
theorem chunk_tileG (o : ℕ) (ho : 128 ∣ o) (ho' : o + 1024 ≤ 7168) (inb) (inb') (inb'') (j : S512x1024.Idx) :
    k0_pay15 (rowsRead arg2 harg2 x1) (weightsRead arg3 harg3 x2 o inb) (xsbRead arg1 harg1 arg11 x0)
        (wscaleRead arg4 harg4 x3 o inb') (biasRead arg5 harg5 x4 o inb'') j
      = tileG x0 x1 x2 x3 x4 (ix2 (j 0) ⟨o + (j 1).val, lt_of_lt_of_le (Nat.add_lt_add_left (j 1).isLt o) ho'⟩) := by
  rw [chunk_apply, xsbRead_apply]
  have e1 : ∀ k : Fin 2048, rowsRead arg2 harg2 x1 (ix2 (j 0) k) = x1 (ix2 (j 0) k) := fun k =>
    readAt_unread_apply arg2 harg2 x1 _ _ _ _ _ (by intro a; fin_cases a <;> simp)
  have e2 : ∀ k : Fin 2048, weightsRead arg3 harg3 x2 o inb (ix2 (j 1) k)
      = x2 (ix2 ⟨o + (j 1).val, lt_of_lt_of_le (Nat.add_lt_add_left (j 1).isLt o) ho'⟩ k) := fun k =>
    readAt_unread_apply arg3 harg3 x2 _ _ _ _ _ (by intro a; fin_cases a <;> simp)
  have e3 : wscaleRead arg4 harg4 x3 o inb' (ix2 0 (j 1))
      = x3 (ix2 0 ⟨o + (j 1).val, lt_of_lt_of_le (Nat.add_lt_add_left (j 1).isLt o) ho'⟩) :=
    readAt_unread_apply arg4 harg4 x3 _ _ _ _ _ (by intro a; fin_cases a <;> simp)
  have e4 : biasRead arg5 harg5 x4 o inb'' (ix2 0 (j 1))
      = x4 (ix2 0 ⟨o + (j 1).val, lt_of_lt_of_le (Nat.add_lt_add_left (j 1).isLt o) ho'⟩) :=
    readAt_unread_apply arg5 harg5 x4 _ _ _ _ _ (by intro a; fin_cases a <;> simp)
  rw [e3, e4, Finset.sum_congr rfl fun k _ => congrArg₂ (· * ·) (e1 k) (e2 k)]
  rfl

/-- A store of a chunk holds the tile's gelu over √2 at its place. -/
theorem chunk_piece (o : ℕ) (ho : 128 ∣ o) (ho' : o + 1024 ≤ 7168) (inb) (inb') (inb'')
    (inbG : ∀ a, (![0, o] : Fin 2 → ℕ) a + S512x1024.size a ≤ S512x7168.size a) (j : S512x1024.Idx) :
    k0_pay16 (rowsRead arg2 harg2 x1) (weightsRead arg3 harg3 x2 o inb) (xsbRead arg1 harg1 arg11 x0)
        (wscaleRead arg4 harg4 x3 o inb') (biasRead arg5 harg5 x4 o inb'') j
      = tileG x0 x1 x2 x3 x4 ((Rect.unit (s := S512x7168) ![0, o] S512x1024.size inbG).emb j) := by
  have e : k0_pay16 (rowsRead arg2 harg2 x1) (weightsRead arg3 harg3 x2 o inb) (xsbRead arg1 harg1 arg11 x0)
        (wscaleRead arg4 harg4 x3 o inb') (biasRead arg5 harg5 x4 o inb'') j
      = k0_pay15 (rowsRead arg2 harg2 x1) (weightsRead arg3 harg3 x2 o inb) (xsbRead arg1 harg1 arg11 x0)
        (wscaleRead arg4 harg4 x3 o inb') (biasRead arg5 harg5 x4 o inb'') j := by
    unfold k0_pay16
    pointwise
  rw [e, chunk_tileG _ _ _ _ _ _ _ _ _ _ _ _ _ _ _ _ o ho ho']
  refine congrArg _ (funext fun a => Fin.ext ?_)
  rw [unit_val]
  fin_cases a <;> simp

/-- `v` holds on each lane the maximum magnitude of the tile's first `o` columns of that lane. -/
def IsMax (o : ℕ) (v : Vec Ideal S512x128 .f32) : Prop :=
  ∀ (y : S512x128.Idx) (b : EReal), v y ≤ b ↔ ∀ n : Fin 7168, n.val < o → n.val % 128 = (y 1).val →
    Cert.Scalar.mag (tileG x0 x1 x2 x3 x4 (ix2 (y 0) n)) ≤ b

/-- The maximum over one chunk, over the chunk's columns of the tile. -/
theorem chunkMax_tile (o : ℕ) (ho : 128 ∣ o) (ho' : o + 1024 ≤ 7168) (inb) (inb') (inb'') (y : S512x128.Idx) (b : EReal) :
    k0_pay17 (rowsRead arg2 harg2 x1) (weightsRead arg3 harg3 x2 o inb) (xsbRead arg1 harg1 arg11 x0)
        (wscaleRead arg4 harg4 x3 o inb') (biasRead arg5 harg5 x4 o inb'') y ≤ b
      ↔ ∀ n : Fin 7168, o ≤ n.val → n.val < o + 1024 → n.val % 128 = (y 1).val →
        Cert.Scalar.mag (tileG x0 x1 x2 x3 x4 (ix2 (y 0) n)) ≤ b := by
  rw [chunkMax_le]
  obtain ⟨p, rfl⟩ := ho
  constructor
  · intro h n h1 h2 h3
    have := h ⟨n.val - 128 * p, by omega⟩ (by show (n.val - 128 * p) % 128 = _; omega)
    rw [chunk_tileG _ _ _ _ _ _ _ _ _ _ _ _ _ _ _ _ (128 * p) ⟨p, rfl⟩ ho'] at this
    have e : (⟨128 * p + (n.val - 128 * p), by omega⟩ : Fin 7168) = n := Fin.ext (by show 128 * p + (n.val - 128 * p) = n.val; omega)
    rw [← e]
    exact this
  · intro h c hc
    have hc' : c.val < 1024 := c.isLt
    rw [chunk_tileG _ _ _ _ _ _ _ _ _ _ _ _ _ _ _ _ (128 * p) ⟨p, rfl⟩ ho']
    exact h ⟨128 * p + c.val, by omega⟩ (by show 128 * p ≤ 128 * p + c.val; omega)
      (by show 128 * p + c.val < 128 * p + 1024; omega) (by show (128 * p + c.val) % 128 = _; omega)

/-- The first chunk starts the maximum. -/
theorem isMax_first (inb) (inb') (inb'') :
    IsMax x0 x1 x2 x3 x4 1024 (k0_pay14 (k0_pay11 (rowsRead arg2 harg2 x1)) (weightsRead arg3 harg3 x2 0 inb)
      (xsbRead arg1 harg1 arg11 x0) (wscaleRead arg4 harg4 x3 0 inb') (biasRead arg5 harg5 x4 0 inb'')) := by
  intro y b
  rw [firstMax_eq, chunkMax_tile _ _ _ _ _ _ _ _ _ _ _ _ _ _ _ _ 0 (by norm_num) (by norm_num)]
  exact ⟨fun h n hn hm => h n (Nat.zero_le _) (by omega) hm, fun h n _ hn hm => h n (by omega) hm⟩

/-- Every later chunk extends it. -/
theorem isMax_step (o : ℕ) (ho : 128 ∣ o) (ho' : o + 1024 ≤ 7168) (inb) (inb') (inb'') (v : Vec Ideal S512x128 .f32)
    (hv : IsMax x0 x1 x2 x3 x4 o v) :
    IsMax x0 x1 x2 x3 x4 (o + 1024) (k0_pay18 (k0_pay17 (rowsRead arg2 harg2 x1) (weightsRead arg3 harg3 x2 o inb)
      (xsbRead arg1 harg1 arg11 x0) (wscaleRead arg4 harg4 x3 o inb') (biasRead arg5 harg5 x4 o inb'')) v) := by
  intro y b
  have e : ∀ w : FVec Ideal S512x128 .f32, k0_pay18 w v y = max (v y) (w y) := by
    intro w
    unfold k0_pay18
    pointwise
  rw [e, max_le_iff, hv, chunkMax_tile _ _ _ _ _ _ _ _ _ _ _ _ _ _ _ _ o ho ho']
  constructor
  · rintro ⟨h1, h2⟩ n hn hm
    by_cases hlt : n.val < o
    · exact h1 n hlt hm
    · exact h2 n (by omega) hn hm
  · intro h
    exact ⟨fun n hn hm => h n (by omega) hm, fun n _ hn hm => h n hn hm⟩

/-- A whole store of the maxima, read back. -/
theorem isMax_read (arg9 : Memref sig .tc .vmem S512x128 .f32) (o : ℕ) (w : Vec Ideal S512x128 .f32) (inb) (inb')
    (L : List (View.Piece (Elt Ideal) S512x128 .f32)) (hw : IsMax x0 x1 x2 x3 x4 o w) :
    IsMax x0 x1 x2 x3 x4 o (arg9.view.readCov ((⟨Rect.unit ![0, 0] S512x128.size inb, w⟩ : View.Piece (Elt Ideal) S512x128 .f32) :: L)
      (Rect.unit ![0, 0] S512x128.size inb').toLoadRect) := by
  have e : arg9.view.readCov ((⟨Rect.unit ![0, 0] S512x128.size inb, w⟩ : View.Piece (Elt Ideal) S512x128 .f32) :: L)
      (Rect.unit ![0, 0] S512x128.size inb').toLoadRect = w := by
    exact View.readCov_cons_unit_lit' _ inb inb' w L (by intro a; fin_cases a <;> rfl) (by intro a; fin_cases a <;> rfl)
  rw [e]
  exact hw

end

end Cert.KernelIdeal.Gen
-- ==== Proof.TileScratch.lean ====
/-
  What one grid point leaves in the scratch buffers: the gelu over √2 of its tile, and the maxima of its magnitudes on
  each lane.
-/
module

public import proofs.«01_k».proof.Proof.TileChunk

@[expose] public section

set_option maxRecDepth 16384

noncomputable section

namespace Cert.KernelIdeal.Gen

open Idealize.ShloMosaic Idealize.ShloMosaic.TcCoe Idealize.ShloMosaic.Tactic

section

variable (c : Dev nD) (i : grid0.Coords)
  (arg1 : Memref sig .tc .vmem S1x4x128 .f32) (harg1 : arg1.IsWhole)
  (arg2 : Memref sig .tc .vmem S512x2048 .fp8e4m3) (harg2 : arg2.IsWhole)
  (arg3 : Memref sig .tc .vmem S7168x2048 .fp8e4m3) (harg3 : arg3.IsWhole)
  (arg4 : Memref sig .tc .vmem S1x7168 .f32) (harg4 : arg4.IsWhole)
  (arg5 : Memref sig .tc .vmem S1x7168 .bf16) (harg5 : arg5.IsWhole)
  (arg6 : Memref sig .tc .vmem S512x7168 .fp8e4m3) (harg6 : arg6.IsWhole)
  (arg7 : Memref sig .tc .vmem S1x4x128 .f32) (harg7 : arg7.IsWhole)
  (arg8 : Memref sig .tc .vmem S512x7168 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (x0 : Vec Ideal S1x4x128 .f32) (x1 : Vec Ideal S512x2048 .fp8e4m3) (x2 : Vec Ideal S7168x2048 .fp8e4m3)
  (x3 : Vec Ideal S1x7168 .f32) (x4 : Vec Ideal S1x7168 .bf16)

/-- The first point leaves its tile's gelu over √2. -/
theorem sout0_A_0_eq (hc0 : cond0_0 i) (hc1 : ¬cond0_1 i) (hc2 : ¬cond0_2 i) :
    sout0_A_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4
      = tileG x0 x1 x2 x3 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4)]
  unfold kernelRun0_A
  dsimp only
  funext y
  refine View.canon_apply_of_pieces (Val := Elt Ideal) (S := S512x7168) (e := .f32) (tileG x0 x1 x2 x3 x4) _ ?_ y
    (scover0_A_0 c i arg1 harg1 arg2 harg2 arg3 harg3 arg4 harg4 arg5 harg5 arg6 harg6 arg7 harg7 arg8 harg8 arg9 harg9 arg10 harg10 arg11 harg11 hc0 hc1 hc2 x0 x1 x2 x3 x4 y)
  intro pc hpc
  rcases List.mem_cons.mp hpc with rfl | hpc
  · exact chunk_piece arg1 harg1 arg2 harg2 arg3 harg3 arg4 harg4 arg5 harg5 arg11 x0 x1 x2 x3 x4 6144 (by norm_num) (by norm_num) inb_S7168x2048_S1024x2048_6144_0 inb_S1x7168_S1x1024_0_6144 inb_S1x7168_S1x1024_0_6144 inb_S512x7168_S512x1024_0_6144
  rcases List.mem_cons.mp hpc with rfl | hpc
  · exact chunk_piece arg1 harg1 arg2 harg2 arg3 harg3 arg4 harg4 arg5 harg5 arg11 x0 x1 x2 x3 x4 5120 (by norm_num) (by norm_num) inb_S7168x2048_S1024x2048_5120_0 inb_S1x7168_S1x1024_0_5120 inb_S1x7168_S1x1024_0_5120 inb_S512x7168_S512x1024_0_5120
  rcases List.mem_cons.mp hpc with rfl | hpc
  · exact chunk_piece arg1 harg1 arg2 harg2 arg3 harg3 arg4 harg4 arg5 harg5 arg11 x0 x1 x2 x3 x4 4096 (by norm_num) (by norm_num) inb_S7168x2048_S1024x2048_4096_0 inb_S1x7168_S1x1024_0_4096 inb_S1x7168_S1x1024_0_4096 inb_S512x7168_S512x1024_0_4096
  rcases List.mem_cons.mp hpc with rfl | hpc
  · exact chunk_piece arg1 harg1 arg2 harg2 arg3 harg3 arg4 harg4 arg5 harg5 arg11 x0 x1 x2 x3 x4 3072 (by norm_num) (by norm_num) inb_S7168x2048_S1024x2048_3072_0 inb_S1x7168_S1x1024_0_3072 inb_S1x7168_S1x1024_0_3072 inb_S512x7168_S512x1024_0_3072
  rcases List.mem_cons.mp hpc with rfl | hpc
  · exact chunk_piece arg1 harg1 arg2 harg2 arg3 harg3 arg4 harg4 arg5 harg5 arg11 x0 x1 x2 x3 x4 2048 (by norm_num) (by norm_num) inb_S7168x2048_S1024x2048_2048_0 inb_S1x7168_S1x1024_0_2048 inb_S1x7168_S1x1024_0_2048 inb_S512x7168_S512x1024_0_2048
  rcases List.mem_cons.mp hpc with rfl | hpc
  · exact chunk_piece arg1 harg1 arg2 harg2 arg3 harg3 arg4 harg4 arg5 harg5 arg11 x0 x1 x2 x3 x4 1024 (by norm_num) (by norm_num) inb_S7168x2048_S1024x2048_1024_0 inb_S1x7168_S1x1024_0_1024 inb_S1x7168_S1x1024_0_1024 inb_S512x7168_S512x1024_0_1024
  rcases List.mem_cons.mp hpc with rfl | hpc
  · exact chunk_piece arg1 harg1 arg2 harg2 arg3 harg3 arg4 harg4 arg5 harg5 arg11 x0 x1 x2 x3 x4 0 (by norm_num) (by norm_num) inb_S7168x2048_S1024x2048_0_0 inb_S1x7168_S1x1024_0_0 inb_S1x7168_S1x1024_0_0 inb_S512x7168_S512x1024_0_0
  exact absurd hpc List.not_mem_nil

/-- The first point leaves the maxima of its tile's magnitudes. -/
theorem sout0_A_1_isMax (hc0 : cond0_0 i) (hc1 : ¬cond0_1 i) (hc2 : ¬cond0_2 i) :
    IsMax x0 x1 x2 x3 x4 7168 (sout0_A_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 hc2 x0 x1 x2 x3 x4)]
  unfold kernelRun0_A
  dsimp only
  rw [View.canon_cons_unit_zero (by funext a; fin_cases a <;> rfl)]
  refine isMax_step arg1 harg1 arg2 harg2 arg3 harg3 arg4 harg4 arg5 harg5 arg11 x0 x1 x2 x3 x4 6144 (by norm_num) (by norm_num) inb_S7168x2048_S1024x2048_6144_0 inb_S1x7168_S1x1024_0_6144 inb_S1x7168_S1x1024_0_6144 _ ?_
  refine isMax_read x0 x1 x2 x3 x4 arg9 6144 _ inb_S512x128_S512x128_0_0 inb_S512x128_S512x128_0_0 _ ?_
  refine isMax_step arg1 harg1 arg2 harg2 arg3 harg3 arg4 harg4 arg5 harg5 arg11 x0 x1 x2 x3 x4 5120 (by norm_num) (by norm_num) inb_S7168x2048_S1024x2048_5120_0 inb_S1x7168_S1x1024_0_5120 inb_S1x7168_S1x1024_0_5120 _ ?_
  refine isMax_read x0 x1 x2 x3 x4 arg9 5120 _ inb_S512x128_S512x128_0_0 inb_S512x128_S512x128_0_0 _ ?_
  refine isMax_step arg1 harg1 arg2 harg2 arg3 harg3 arg4 harg4 arg5 harg5 arg11 x0 x1 x2 x3 x4 4096 (by norm_num) (by norm_num) inb_S7168x2048_S1024x2048_4096_0 inb_S1x7168_S1x1024_0_4096 inb_S1x7168_S1x1024_0_4096 _ ?_
  refine isMax_read x0 x1 x2 x3 x4 arg9 4096 _ inb_S512x128_S512x128_0_0 inb_S512x128_S512x128_0_0 _ ?_
  refine isMax_step arg1 harg1 arg2 harg2 arg3 harg3 arg4 harg4 arg5 harg5 arg11 x0 x1 x2 x3 x4 3072 (by norm_num) (by norm_num) inb_S7168x2048_S1024x2048_3072_0 inb_S1x7168_S1x1024_0_3072 inb_S1x7168_S1x1024_0_3072 _ ?_
  refine isMax_read x0 x1 x2 x3 x4 arg9 3072 _ inb_S512x128_S512x128_0_0 inb_S512x128_S512x128_0_0 _ ?_
  refine isMax_step arg1 harg1 arg2 harg2 arg3 harg3 arg4 harg4 arg5 harg5 arg11 x0 x1 x2 x3 x4 2048 (by norm_num) (by norm_num) inb_S7168x2048_S1024x2048_2048_0 inb_S1x7168_S1x1024_0_2048 inb_S1x7168_S1x1024_0_2048 _ ?_
  refine isMax_read x0 x1 x2 x3 x4 arg9 2048 _ inb_S512x128_S512x128_0_0 inb_S512x128_S512x128_0_0 _ ?_
  refine isMax_step arg1 harg1 arg2 harg2 arg3 harg3 arg4 harg4 arg5 harg5 arg11 x0 x1 x2 x3 x4 1024 (by norm_num) (by norm_num) inb_S7168x2048_S1024x2048_1024_0 inb_S1x7168_S1x1024_0_1024 inb_S1x7168_S1x1024_0_1024 _ ?_
  refine isMax_read x0 x1 x2 x3 x4 arg9 1024 _ inb_S512x128_S512x128_0_0 inb_S512x128_S512x128_0_0 _ ?_
  exact isMax_first arg1 harg1 arg2 harg2 arg3 harg3 arg4 harg4 arg5 harg5 arg11 x0 x1 x2 x3 x4 inb_S7168x2048_S1024x2048_0_0 inb_S1x7168_S1x1024_0_0 inb_S1x7168_S1x1024_0_0

/-- A middle point leaves its tile's gelu over √2. -/
theorem sout0_B_0_eq (hc0 : ¬cond0_0 i) (hc1 : cond0_1 i) (hc2 : ¬cond0_2 i)
    (xs0 : Vec Ideal S512x7168 .f32) (xs1 : Vec Ideal S512x128 .f32) :
    sout0_B_0 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1
      = tileG x0 x1 x2 x3 x4 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_B
  dsimp only
  funext y
  refine View.canon_apply_of_pieces (Val := Elt Ideal) (S := S512x7168) (e := .f32) (tileG x0 x1 x2 x3 x4) _ ?_ y
    (scover0_B_0 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 y)
  intro pc hpc
  rcases List.mem_cons.mp hpc with rfl | hpc
  · exact chunk_piece arg1 harg1 arg2 harg2 arg3 harg3 arg4 harg4 arg5 harg5 arg11 x0 x1 x2 x3 x4 6144 (by norm_num) (by norm_num) inb_S7168x2048_S1024x2048_6144_0 inb_S1x7168_S1x1024_0_6144 inb_S1x7168_S1x1024_0_6144 inb_S512x7168_S512x1024_0_6144
  rcases List.mem_cons.mp hpc with rfl | hpc
  · exact chunk_piece arg1 harg1 arg2 harg2 arg3 harg3 arg4 harg4 arg5 harg5 arg11 x0 x1 x2 x3 x4 5120 (by norm_num) (by norm_num) inb_S7168x2048_S1024x2048_5120_0 inb_S1x7168_S1x1024_0_5120 inb_S1x7168_S1x1024_0_5120 inb_S512x7168_S512x1024_0_5120
  rcases List.mem_cons.mp hpc with rfl | hpc
  · exact chunk_piece arg1 harg1 arg2 harg2 arg3 harg3 arg4 harg4 arg5 harg5 arg11 x0 x1 x2 x3 x4 4096 (by norm_num) (by norm_num) inb_S7168x2048_S1024x2048_4096_0 inb_S1x7168_S1x1024_0_4096 inb_S1x7168_S1x1024_0_4096 inb_S512x7168_S512x1024_0_4096
  rcases List.mem_cons.mp hpc with rfl | hpc
  · exact chunk_piece arg1 harg1 arg2 harg2 arg3 harg3 arg4 harg4 arg5 harg5 arg11 x0 x1 x2 x3 x4 3072 (by norm_num) (by norm_num) inb_S7168x2048_S1024x2048_3072_0 inb_S1x7168_S1x1024_0_3072 inb_S1x7168_S1x1024_0_3072 inb_S512x7168_S512x1024_0_3072
  rcases List.mem_cons.mp hpc with rfl | hpc
  · exact chunk_piece arg1 harg1 arg2 harg2 arg3 harg3 arg4 harg4 arg5 harg5 arg11 x0 x1 x2 x3 x4 2048 (by norm_num) (by norm_num) inb_S7168x2048_S1024x2048_2048_0 inb_S1x7168_S1x1024_0_2048 inb_S1x7168_S1x1024_0_2048 inb_S512x7168_S512x1024_0_2048
  rcases List.mem_cons.mp hpc with rfl | hpc
  · exact chunk_piece arg1 harg1 arg2 harg2 arg3 harg3 arg4 harg4 arg5 harg5 arg11 x0 x1 x2 x3 x4 1024 (by norm_num) (by norm_num) inb_S7168x2048_S1024x2048_1024_0 inb_S1x7168_S1x1024_0_1024 inb_S1x7168_S1x1024_0_1024 inb_S512x7168_S512x1024_0_1024
  rcases List.mem_cons.mp hpc with rfl | hpc
  · exact chunk_piece arg1 harg1 arg2 harg2 arg3 harg3 arg4 harg4 arg5 harg5 arg11 x0 x1 x2 x3 x4 0 (by norm_num) (by norm_num) inb_S7168x2048_S1024x2048_0_0 inb_S1x7168_S1x1024_0_0 inb_S1x7168_S1x1024_0_0 inb_S512x7168_S512x1024_0_0
  exact absurd hpc List.not_mem_nil

/-- A middle point leaves the maxima of its tile's magnitudes. -/
theorem sout0_B_1_isMax (hc0 : ¬cond0_0 i) (hc1 : cond0_1 i) (hc2 : ¬cond0_2 i)
    (xs0 : Vec Ideal S512x7168 .f32) (xs1 : Vec Ideal S512x128 .f32) :
    IsMax x0 x1 x2 x3 x4 7168 (sout0_B_1 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_B
  dsimp only
  rw [View.canon_cons_unit_zero (by funext a; fin_cases a <;> rfl)]
  refine isMax_step arg1 harg1 arg2 harg2 arg3 harg3 arg4 harg4 arg5 harg5 arg11 x0 x1 x2 x3 x4 6144 (by norm_num) (by norm_num) inb_S7168x2048_S1024x2048_6144_0 inb_S1x7168_S1x1024_0_6144 inb_S1x7168_S1x1024_0_6144 _ ?_
  refine isMax_read x0 x1 x2 x3 x4 arg9 6144 _ inb_S512x128_S512x128_0_0 inb_S512x128_S512x128_0_0 _ ?_
  refine isMax_step arg1 harg1 arg2 harg2 arg3 harg3 arg4 harg4 arg5 harg5 arg11 x0 x1 x2 x3 x4 5120 (by norm_num) (by norm_num) inb_S7168x2048_S1024x2048_5120_0 inb_S1x7168_S1x1024_0_5120 inb_S1x7168_S1x1024_0_5120 _ ?_
  refine isMax_read x0 x1 x2 x3 x4 arg9 5120 _ inb_S512x128_S512x128_0_0 inb_S512x128_S512x128_0_0 _ ?_
  refine isMax_step arg1 harg1 arg2 harg2 arg3 harg3 arg4 harg4 arg5 harg5 arg11 x0 x1 x2 x3 x4 4096 (by norm_num) (by norm_num) inb_S7168x2048_S1024x2048_4096_0 inb_S1x7168_S1x1024_0_4096 inb_S1x7168_S1x1024_0_4096 _ ?_
  refine isMax_read x0 x1 x2 x3 x4 arg9 4096 _ inb_S512x128_S512x128_0_0 inb_S512x128_S512x128_0_0 _ ?_
  refine isMax_step arg1 harg1 arg2 harg2 arg3 harg3 arg4 harg4 arg5 harg5 arg11 x0 x1 x2 x3 x4 3072 (by norm_num) (by norm_num) inb_S7168x2048_S1024x2048_3072_0 inb_S1x7168_S1x1024_0_3072 inb_S1x7168_S1x1024_0_3072 _ ?_
  refine isMax_read x0 x1 x2 x3 x4 arg9 3072 _ inb_S512x128_S512x128_0_0 inb_S512x128_S512x128_0_0 _ ?_
  refine isMax_step arg1 harg1 arg2 harg2 arg3 harg3 arg4 harg4 arg5 harg5 arg11 x0 x1 x2 x3 x4 2048 (by norm_num) (by norm_num) inb_S7168x2048_S1024x2048_2048_0 inb_S1x7168_S1x1024_0_2048 inb_S1x7168_S1x1024_0_2048 _ ?_
  refine isMax_read x0 x1 x2 x3 x4 arg9 2048 _ inb_S512x128_S512x128_0_0 inb_S512x128_S512x128_0_0 _ ?_
  refine isMax_step arg1 harg1 arg2 harg2 arg3 harg3 arg4 harg4 arg5 harg5 arg11 x0 x1 x2 x3 x4 1024 (by norm_num) (by norm_num) inb_S7168x2048_S1024x2048_1024_0 inb_S1x7168_S1x1024_0_1024 inb_S1x7168_S1x1024_0_1024 _ ?_
  refine isMax_read x0 x1 x2 x3 x4 arg9 1024 _ inb_S512x128_S512x128_0_0 inb_S512x128_S512x128_0_0 _ ?_
  exact isMax_first arg1 harg1 arg2 harg2 arg3 harg3 arg4 harg4 arg5 harg5 arg11 x0 x1 x2 x3 x4 inb_S7168x2048_S1024x2048_0_0 inb_S1x7168_S1x1024_0_0 inb_S1x7168_S1x1024_0_0

end

end Cert.KernelIdeal.Gen
-- ==== Proof.TileOut.lean ====
/-
  What one grid point writes of the tile before it, from the two scratch buffers: the scales of its rows, and its codes.
-/
module

public import proofs.«01_k».proof.Proof.TileChunk

@[expose] public section

set_option maxRecDepth 16384

noncomputable section

namespace Cert.KernelIdeal.Gen

open Idealize.ShloMosaic Idealize.ShloMosaic.TcCoe Idealize.ShloMosaic.Tactic

/-- A row's inverse scale times √½, of the lane maxima `a`. -/
def rowInv (a : Vec Ideal S512x128 .f32) (r : Fin 512) : EReal :=
  Cert.Scalar.invOf (scaleArg (laneMax a r)) * Cert.Scalar.s

/-- A tile's codes, of its gelu over √2 and its lane maxima. -/
def tileCodes (g : Vec Ideal S512x7168 .f32) (a : Vec Ideal S512x128 .f32) : Vec Ideal S512x7168 .fp8e4m3 := fun y =>
  min (Ideal.ofBits .f32 0x43E00000#32) (max (Ideal.ofBits .f32 0xC3E00000#32) (g y * rowInv a (y 0)))

/-- A tile's scales, of its lane maxima. -/
def tileScales (a : Vec Ideal S512x128 .f32) : Vec Ideal S1x4x128 .f32 := fun y =>
  Cert.Scalar.scaleOf (scaleArg (laneMax a ⟨128 * (y 1).val + (y 2).val, by
    have h1 : (y 1).val < 4 := (y 1).isLt
    have h2 : (y 2).val < 128 := (y 2).isLt
    omega⟩))

section

variable (c : Dev nD) (i : grid0.Coords)
  (arg1 : Memref sig .tc .vmem S1x4x128 .f32) (harg1 : arg1.IsWhole)
  (arg2 : Memref sig .tc .vmem S512x2048 .fp8e4m3) (harg2 : arg2.IsWhole)
  (arg3 : Memref sig .tc .vmem S7168x2048 .fp8e4m3) (harg3 : arg3.IsWhole)
  (arg4 : Memref sig .tc .vmem S1x7168 .f32) (harg4 : arg4.IsWhole)
  (arg5 : Memref sig .tc .vmem S1x7168 .bf16) (harg5 : arg5.IsWhole)
  (arg6 : Memref sig .tc .vmem S512x7168 .fp8e4m3) (harg6 : arg6.IsWhole)
  (arg7 : Memref sig .tc .vmem S1x4x128 .f32) (harg7 : arg7.IsWhole)
  (arg8 : Memref sig .tc .vmem S512x7168 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (xs0 : Vec Ideal S512x7168 .f32) (xs1 : Vec Ideal S512x128 .f32)
  (x0 : Vec Ideal S1x4x128 .f32) (x1 : Vec Ideal S512x2048 .fp8e4m3) (x2 : Vec Ideal S7168x2048 .fp8e4m3)
  (x3 : Vec Ideal S1x7168 .f32) (x4 : Vec Ideal S1x7168 .bf16)

/-- The lane maxima of one group of 128 rows. -/
abbrev maxRead (o : ℕ) (inb : ∀ a, (![o, 0] : Fin 2 → ℕ) a + S128x128.size a ≤ S512x128.size a) : Vec Ideal S128x128 .f32 :=
  View.readAt (Elt Ideal) arg9.view (Rect.unit (s := S512x128) ![o, 0] S128x128.size inb).toLoadRect (harg9.unread xs1)

theorem laneMax_maxRead (o : ℕ) (inb) (r : Fin 128) (n : Fin 512) (hn : n.val = o + r.val) :
    laneMax (maxRead arg9 harg9 xs1 o inb) r = laneMax xs1 n := by
  unfold laneMax
  refine congrArg (fun f : Fin 128 → EReal => Finset.univ.fold max ⊥ f) (funext fun l => ?_)
  refine readAt_unread_apply arg9 harg9 xs1 _ _ _ _ _ ?_
  intro a
  fin_cases a
  · exact hn
  · simp

/-- The inverse scales of the tile's rows, spread over the lanes. -/
abbrev invRead : Vec Ideal S512x128 .f32 :=
  arg10.view.readCov
    [(⟨Rect.unit ![384, 0] S128x128.size inb_S512x128_S128x128_384_0, invTile (maxRead arg9 harg9 xs1 384 inb_S512x128_S128x128_384_0)⟩ :
        View.Piece (Elt Ideal) S512x128 .f32),
      ⟨Rect.unit ![256, 0] S128x128.size inb_S512x128_S128x128_256_0, invTile (maxRead arg9 harg9 xs1 256 inb_S512x128_S128x128_256_0)⟩,
      ⟨Rect.unit ![128, 0] S128x128.size inb_S512x128_S128x128_128_0, invTile (maxRead arg9 harg9 xs1 128 inb_S512x128_S128x128_128_0)⟩,
      ⟨Rect.unit ![0, 0] S128x128.size inb_S512x128_S128x128_0_0, invTile (maxRead arg9 harg9 xs1 0 inb_S512x128_S128x128_0_0)⟩]
    (Rect.unit ![0, 0] S512x128.size inb_S512x128_S512x128_0_0).toLoadRect

theorem invRead_apply (y : S512x128.Idx) : invRead arg9 harg9 arg10 xs1 y = rowInv xs1 (y 0) := by
  unfold invRead
  have hcov : ∀ z : S512x128.Idx, ∃ p ∈ ([(⟨Rect.unit ![384, 0] S128x128.size inb_S512x128_S128x128_384_0, invTile (maxRead arg9 harg9 xs1 384 inb_S512x128_S128x128_384_0)⟩ :
        View.Piece (Elt Ideal) S512x128 .f32),
      ⟨Rect.unit ![256, 0] S128x128.size inb_S512x128_S128x128_256_0, invTile (maxRead arg9 harg9 xs1 256 inb_S512x128_S128x128_256_0)⟩,
      ⟨Rect.unit ![128, 0] S128x128.size inb_S512x128_S128x128_128_0, invTile (maxRead arg9 harg9 xs1 128 inb_S512x128_S128x128_128_0)⟩,
      ⟨Rect.unit ![0, 0] S128x128.size inb_S512x128_S128x128_0_0, invTile (maxRead arg9 harg9 xs1 0 inb_S512x128_S128x128_0_0)⟩] :
        List (View.Piece (Elt Ideal) S512x128 .f32)), z ∈ p.1.set :=
    fun z => View.cover_of_tiledL (s := S512x128) _ S128x128.size (by sl_kernel_rfl) z
  rw [View.readCov_eq_canon_ld _ _ _ hcov, View.ld_unit_zero (by funext a; fin_cases a <;> rfl)]
  refine View.canon_apply_of_pieces (Val := Elt Ideal) (S := S512x128) (e := .f32) (fun y => rowInv xs1 (y 0)) _ ?_ y (hcov y)
  intro pc hpc
  have key : ∀ (o : ℕ) (inb) (x : S128x128.Idx), invTile (maxRead arg9 harg9 xs1 o inb) x
      = rowInv xs1 ((Rect.unit (s := S512x128) ![o, 0] S128x128.size inb).emb x 0) := by
    intro o inb x
    rw [invTile_apply]
    unfold rowInv
    exact congrArg (fun m => Cert.Scalar.invOf (scaleArg m) * Cert.Scalar.s)
      (laneMax_maxRead arg9 harg9 xs1 o inb (x 0) _ (unit_val _ _ _ _ _))
  rcases List.mem_cons.mp hpc with rfl | hpc
  · exact key 384 inb_S512x128_S128x128_384_0
  rcases List.mem_cons.mp hpc with rfl | hpc
  · exact key 256 inb_S512x128_S128x128_256_0
  rcases List.mem_cons.mp hpc with rfl | hpc
  · exact key 128 inb_S512x128_S128x128_128_0
  rcases List.mem_cons.mp hpc with rfl | hpc
  · exact key 0 inb_S512x128_S128x128_0_0
  exact absurd hpc List.not_mem_nil

/-- A store of a chunk of codes holds the tile's codes at its place. -/
theorem codes_piece (o : ℕ) (inb inb' : ∀ a, (![0, o] : Fin 2 → ℕ) a + S512x1024.size a ≤ S512x7168.size a) (j : S512x1024.Idx) :
    k0_pay6 (invRead arg9 harg9 arg10 xs1)
        (View.readAt (Elt Ideal) arg8.view (Rect.unit (s := S512x7168) ![0, o] S512x1024.size inb).toLoadRect (harg8.unread xs0)) j
      = tileCodes xs0 xs1 ((Rect.unit (s := S512x7168) ![0, o] S512x1024.size inb').emb j) := by
  unfold k0_pay6
  dsimp only
  rw [show concatenate S512x1024 1 [⟨S512x128, invRead arg9 harg9 arg10 xs1⟩, ⟨S512x128, invRead arg9 harg9 arg10 xs1⟩,
    ⟨S512x128, invRead arg9 harg9 arg10 xs1⟩, ⟨S512x128, invRead arg9 harg9 arg10 xs1⟩,
    ⟨S512x128, invRead arg9 harg9 arg10 xs1⟩, ⟨S512x128, invRead arg9 harg9 arg10 xs1⟩,
    ⟨S512x128, invRead arg9 harg9 arg10 xs1⟩, ⟨S512x128, invRead arg9 harg9 arg10 xs1⟩] _ = _ from
    funext fun j => (lanes_apply _ _ j).trans (invRead_apply arg9 harg9 arg10 xs1 _)]
  unfold tileCodes
  have e1 : View.readAt (Elt Ideal) arg8.view (Rect.unit (s := S512x7168) ![0, o] S512x1024.size inb).toLoadRect (harg8.unread xs0) j
      = xs0 ((Rect.unit (s := S512x7168) ![0, o] S512x1024.size inb').emb j) :=
    readAt_unread_apply arg8 harg8 xs0 _ _ _ _ _ fun a => unit_val _ _ _ _ _
  have e2 : ((Rect.unit (s := S512x7168) ![0, o] S512x1024.size inb').emb j 0) = j 0 := Fin.ext (by
    rw [unit_val]; simp)
  rw [← e1, e2]
  rfl

/-- A store of the scales of one group of 128 rows holds the tile's scales at its place. -/
theorem scales_piece (t : ℕ) (inb) (inb' : ∀ a, (![0, t, 0] : Fin 3 → ℕ) a + S1x1x128.size a ≤ S1x4x128.size a) (j : S1x1x128.Idx) :
    scaleTile (maxRead arg9 harg9 xs1 (128 * t) inb) j
      = tileScales xs1 ((Rect.unit (s := S1x4x128) ![0, t, 0] S1x1x128.size inb').emb j) := by
  rw [scaleTile_apply]
  unfold tileScales
  refine congrArg (fun m => Cert.Scalar.scaleOf (scaleArg m)) (laneMax_maxRead arg9 harg9 xs1 _ inb (j 2) _ ?_)
  have h1 : (j 1).val < 1 := (j 1).isLt
  have e1 : ((Rect.unit (s := S1x4x128) ![0, t, 0] S1x1x128.size inb').emb j 1).val = t + (j 1).val := unit_val _ _ _ _ _
  have e2 : ((Rect.unit (s := S1x4x128) ![0, t, 0] S1x1x128.size inb').emb j 2).val = 0 + (j 2).val := unit_val _ _ _ _ _
  show 128 * ((Rect.unit (s := S1x4x128) ![0, t, 0] S1x1x128.size inb').emb j 1).val
    + ((Rect.unit (s := S1x4x128) ![0, t, 0] S1x1x128.size inb').emb j 2).val = _
  rw [e1, e2]
  omega

/-- A middle point writes the codes of the tile the scratch buffers hold. -/
theorem out0_B_5_eq (hc0 : ¬cond0_0 i) (hc1 : cond0_1 i) (hc2 : ¬cond0_2 i) :
    out0_B_5 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 = tileCodes xs0 xs1 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_B
  dsimp only
  funext y
  refine View.canon_apply_of_pieces (Val := Elt Ideal) (S := S512x7168) (e := .fp8e4m3) (tileCodes xs0 xs1) _ ?_ y
    (cover0_B_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 y)
  intro pc hpc
  rcases List.mem_cons.mp hpc with rfl | hpc
  · exact codes_piece arg8 harg8 arg9 harg9 arg10 xs0 xs1 6144 inb_S512x7168_S512x1024_0_6144 inb_S512x7168_S512x1024_0_6144
  rcases List.mem_cons.mp hpc with rfl | hpc
  · exact codes_piece arg8 harg8 arg9 harg9 arg10 xs0 xs1 5120 inb_S512x7168_S512x1024_0_5120 inb_S512x7168_S512x1024_0_5120
  rcases List.mem_cons.mp hpc with rfl | hpc
  · exact codes_piece arg8 harg8 arg9 harg9 arg10 xs0 xs1 4096 inb_S512x7168_S512x1024_0_4096 inb_S512x7168_S512x1024_0_4096
  rcases List.mem_cons.mp hpc with rfl | hpc
  · exact codes_piece arg8 harg8 arg9 harg9 arg10 xs0 xs1 3072 inb_S512x7168_S512x1024_0_3072 inb_S512x7168_S512x1024_0_3072
  rcases List.mem_cons.mp hpc with rfl | hpc
  · exact codes_piece arg8 harg8 arg9 harg9 arg10 xs0 xs1 2048 inb_S512x7168_S512x1024_0_2048 inb_S512x7168_S512x1024_0_2048
  rcases List.mem_cons.mp hpc with rfl | hpc
  · exact codes_piece arg8 harg8 arg9 harg9 arg10 xs0 xs1 1024 inb_S512x7168_S512x1024_0_1024 inb_S512x7168_S512x1024_0_1024
  rcases List.mem_cons.mp hpc with rfl | hpc
  · exact codes_piece arg8 harg8 arg9 harg9 arg10 xs0 xs1 0 inb_S512x7168_S512x1024_0_0 inb_S512x7168_S512x1024_0_0
  exact absurd hpc List.not_mem_nil

/-- A middle point writes the scales of the tile the scratch buffers hold. -/
theorem out0_B_6_eq (hc0 : ¬cond0_0 i) (hc1 : cond0_1 i) (hc2 : ¬cond0_2 i) :
    out0_B_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 = tileScales xs1 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_B
  dsimp only
  funext y
  refine View.canon_apply_of_pieces (Val := Elt Ideal) (S := S1x4x128) (e := .f32) (tileScales xs1) _ ?_ y
    (cover0_B_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 y)
  intro pc hpc
  rcases List.mem_cons.mp hpc with rfl | hpc
  · exact scales_piece arg9 harg9 xs1 3 inb_S512x128_S128x128_384_0 inb_S1x4x128_S1x1x128_0_3_0
  rcases List.mem_cons.mp hpc with rfl | hpc
  · exact scales_piece arg9 harg9 xs1 2 inb_S512x128_S128x128_256_0 inb_S1x4x128_S1x1x128_0_2_0
  rcases List.mem_cons.mp hpc with rfl | hpc
  · exact scales_piece arg9 harg9 xs1 1 inb_S512x128_S128x128_128_0 inb_S1x4x128_S1x1x128_0_1_0
  rcases List.mem_cons.mp hpc with rfl | hpc
  · exact scales_piece arg9 harg9 xs1 0 inb_S512x128_S128x128_0_0 inb_S1x4x128_S1x1x128_0_0_0
  exact absurd hpc List.not_mem_nil

/-- The last point writes the codes of the tile the scratch buffers hold. -/
theorem out0_C_5_eq (hc0 : ¬cond0_0 i) (hc1 : ¬cond0_1 i) (hc2 : cond0_2 i) :
    out0_C_5 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 = tileCodes xs0 xs1 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_C
  dsimp only
  funext y
  refine View.canon_apply_of_pieces (Val := Elt Ideal) (S := S512x7168) (e := .fp8e4m3) (tileCodes xs0 xs1) _ ?_ y
    (cover0_C_5 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 y)
  intro pc hpc
  rcases List.mem_cons.mp hpc with rfl | hpc
  · exact codes_piece arg8 harg8 arg9 harg9 arg10 xs0 xs1 6144 inb_S512x7168_S512x1024_0_6144 inb_S512x7168_S512x1024_0_6144
  rcases List.mem_cons.mp hpc with rfl | hpc
  · exact codes_piece arg8 harg8 arg9 harg9 arg10 xs0 xs1 5120 inb_S512x7168_S512x1024_0_5120 inb_S512x7168_S512x1024_0_5120
  rcases List.mem_cons.mp hpc with rfl | hpc
  · exact codes_piece arg8 harg8 arg9 harg9 arg10 xs0 xs1 4096 inb_S512x7168_S512x1024_0_4096 inb_S512x7168_S512x1024_0_4096
  rcases List.mem_cons.mp hpc with rfl | hpc
  · exact codes_piece arg8 harg8 arg9 harg9 arg10 xs0 xs1 3072 inb_S512x7168_S512x1024_0_3072 inb_S512x7168_S512x1024_0_3072
  rcases List.mem_cons.mp hpc with rfl | hpc
  · exact codes_piece arg8 harg8 arg9 harg9 arg10 xs0 xs1 2048 inb_S512x7168_S512x1024_0_2048 inb_S512x7168_S512x1024_0_2048
  rcases List.mem_cons.mp hpc with rfl | hpc
  · exact codes_piece arg8 harg8 arg9 harg9 arg10 xs0 xs1 1024 inb_S512x7168_S512x1024_0_1024 inb_S512x7168_S512x1024_0_1024
  rcases List.mem_cons.mp hpc with rfl | hpc
  · exact codes_piece arg8 harg8 arg9 harg9 arg10 xs0 xs1 0 inb_S512x7168_S512x1024_0_0 inb_S512x7168_S512x1024_0_0
  exact absurd hpc List.not_mem_nil

/-- The last point writes the scales of the tile the scratch buffers hold. -/
theorem out0_C_6_eq (hc0 : ¬cond0_0 i) (hc1 : ¬cond0_1 i) (hc2 : cond0_2 i) :
    out0_C_6 (F := Ideal) c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 = tileScales xs1 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1)]
  unfold kernelRun0_C
  dsimp only
  funext y
  refine View.canon_apply_of_pieces (Val := Elt Ideal) (S := S1x4x128) (e := .f32) (tileScales xs1) _ ?_ y
    (cover0_C_6 c i arg1 harg1 arg2 harg2 arg3 harg3 arg4 harg4 arg5 harg5 arg6 harg6 arg7 harg7 arg8 harg8 arg9 harg9 arg10 harg10 arg11 harg11 hc0 hc1 hc2 x0 x1 x2 x3 x4 xs0 xs1 y)
  intro pc hpc
  rcases List.mem_cons.mp hpc with rfl | hpc
  · exact scales_piece arg9 harg9 xs1 3 inb_S512x128_S128x128_384_0 inb_S1x4x128_S1x1x128_0_3_0
  rcases List.mem_cons.mp hpc with rfl | hpc
  · exact scales_piece arg9 harg9 xs1 2 inb_S512x128_S128x128_256_0 inb_S1x4x128_S1x1x128_0_2_0
  rcases List.mem_cons.mp hpc with rfl | hpc
  · exact scales_piece arg9 harg9 xs1 1 inb_S512x128_S128x128_128_0 inb_S1x4x128_S1x1x128_0_1_0
  rcases List.mem_cons.mp hpc with rfl | hpc
  · exact scales_piece arg9 harg9 xs1 0 inb_S512x128_S128x128_0_0 inb_S1x4x128_S1x1x128_0_0_0
  exact absurd hpc List.not_mem_nil

end

end Cert.KernelIdeal.Gen
-- ==== Proof.Points.lean ====
/-
  The grid, point by point: what the scratch buffers hold after a point that computes a tile, and what a point that
  quantises leaves in its two output blocks.
-/
module

public import proofs.«01_k».proof.Proof.TileScratch
public import proofs.«01_k».proof.Proof.TileOut
public import Idealize.ShloMosaic.Lib.Pipeline.ValueKit.Geometry

@[expose] public section

set_option maxRecDepth 16384

noncomputable section

namespace Cert.KernelIdeal.Gen

open Cert.KernelIdeal Idealize.ShloMosaic Idealize.ShloMosaic.TcCoe Idealize.ShloMosaic.Tactic

variable (m : (ℓ : Loc nD τ sig) → Buf (Elt Ideal) ℓ) (c : Dev nD)

/-- The gelu over √2 of the tile that point `t` computes. -/
def pointG (t : Fin cfg0.N) : Vec Ideal S512x7168 .f32 :=
  tileG (iblk m c 0 t) (iblk m c 1 t) (iblk m c 2 t) (iblk m c 3 t) (iblk m c 4 t)

/-- Up to point 47 the first scratch buffer holds the point's tile. -/
theorem scratchG (t : Fin cfg0.N) (h : t.val ≤ 47) : (outsAt0 m c t.val t.isLt).2.2.1 = pointG m c t := by
  by_cases hz : t.val = 0
  · have h0 : t.val % 49 = 0 := by omega
    have h1 : ¬(1 ≤ t.val % 49 ∧ t.val % 49 ≤ 47) := by omega
    have h2 : ¬t.val % 49 = 48 := by omega
    simp only [outsAt0_A m c t h0 h1 h2]
    exact sout0_A_0_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (iblk m c 0 t) (iblk m c 1 t) (iblk m c 2 t) (iblk m c 3 t) (iblk m c 4 t)
      ((hcond0_0 t).mpr h0) (fun h => h1 ((hcond0_1 t).mp h)) (fun h => h2 ((hcond0_2 t).mp h))
  · have h0 : ¬t.val % 49 = 0 := by omega
    have h1 : (1 ≤ t.val % 49 ∧ t.val % 49 ≤ 47) := by omega
    have h2 : ¬t.val % 49 = 48 := by omega
    simp only [outsAt0_B m c t h0 h1 h2]
    exact sout0_B_0_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (iblk m c 0 t) (iblk m c 1 t) (iblk m c 2 t) (iblk m c 3 t) (iblk m c 4 t)
      (fun h => h0 ((hcond0_0 t).mp h)) ((hcond0_1 t).mpr h1) (fun h => h2 ((hcond0_2 t).mp h))
      (outsAt0 m c (t.val - 1) (Nat.lt_of_le_of_lt (Nat.sub_le _ _) t.isLt)).2.2.1
      (outsAt0 m c (t.val - 1) (Nat.lt_of_le_of_lt (Nat.sub_le _ _) t.isLt)).2.2.2

/-- … and the second the lane maxima of its magnitudes. -/
theorem scratchMax (t : Fin cfg0.N) (h : t.val ≤ 47) :
    IsMax (iblk m c 0 t) (iblk m c 1 t) (iblk m c 2 t) (iblk m c 3 t) (iblk m c 4 t) 7168
      (outsAt0 m c t.val t.isLt).2.2.2 := by
  by_cases hz : t.val = 0
  · have h0 : t.val % 49 = 0 := by omega
    have h1 : ¬(1 ≤ t.val % 49 ∧ t.val % 49 ≤ 47) := by omega
    have h2 : ¬t.val % 49 = 48 := by omega
    simp only [outsAt0_A m c t h0 h1 h2]
    exact sout0_A_1_isMax c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (iblk m c 0 t) (iblk m c 1 t) (iblk m c 2 t) (iblk m c 3 t) (iblk m c 4 t)
      ((hcond0_0 t).mpr h0) (fun h => h1 ((hcond0_1 t).mp h)) (fun h => h2 ((hcond0_2 t).mp h))
  · have h0 : ¬t.val % 49 = 0 := by omega
    have h1 : (1 ≤ t.val % 49 ∧ t.val % 49 ≤ 47) := by omega
    have h2 : ¬t.val % 49 = 48 := by omega
    simp only [outsAt0_B m c t h0 h1 h2]
    exact sout0_B_1_isMax c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (iblk m c 0 t) (iblk m c 1 t) (iblk m c 2 t) (iblk m c 3 t) (iblk m c 4 t)
      (fun h => h0 ((hcond0_0 t).mp h)) ((hcond0_1 t).mpr h1) (fun h => h2 ((hcond0_2 t).mp h))
      (outsAt0 m c (t.val - 1) (Nat.lt_of_le_of_lt (Nat.sub_le _ _) t.isLt)).2.2.1
      (outsAt0 m c (t.val - 1) (Nat.lt_of_le_of_lt (Nat.sub_le _ _) t.isLt)).2.2.2

/-- From point 1 on, the codes block is the codes of the tile before. -/
theorem pointCodes (t : Fin cfg0.N) (h : 1 ≤ t.val) :
    (outsAt0 m c t.val t.isLt).1 = tileCodes (outsAt0 m c (t.val - 1) (Nat.lt_of_le_of_lt (Nat.sub_le _ _) t.isLt)).2.2.1
      (outsAt0 m c (t.val - 1) (Nat.lt_of_le_of_lt (Nat.sub_le _ _) t.isLt)).2.2.2 := by
  have hN : t.val < 49 := lt_of_lt_of_eq t.isLt N_0
  by_cases hl : t.val = 48
  · have h0 : ¬t.val % 49 = 0 := by omega
    have h1 : ¬(1 ≤ t.val % 49 ∧ t.val % 49 ≤ 47) := by omega
    have h2 : t.val % 49 = 48 := by omega
    simp only [outsAt0_C m c t h0 h1 h2]
    exact out0_C_5_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 0 t) (iblk m c 1 t) (iblk m c 2 t) (iblk m c 3 t) (iblk m c 4 t)
      (fun h => h0 ((hcond0_0 t).mp h)) (fun h => h1 ((hcond0_1 t).mp h)) ((hcond0_2 t).mpr h2)
  · have h0 : ¬t.val % 49 = 0 := by omega
    have h1 : (1 ≤ t.val % 49 ∧ t.val % 49 ≤ 47) := by omega
    have h2 : ¬t.val % 49 = 48 := by omega
    simp only [outsAt0_B m c t h0 h1 h2]
    exact out0_B_5_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 0 t) (iblk m c 1 t) (iblk m c 2 t) (iblk m c 3 t) (iblk m c 4 t)
      (fun h => h0 ((hcond0_0 t).mp h)) ((hcond0_1 t).mpr h1) (fun h => h2 ((hcond0_2 t).mp h))

/-- … and the scales block its scales. -/
theorem pointScales (t : Fin cfg0.N) (h : 1 ≤ t.val) :
    (outsAt0 m c t.val t.isLt).2.1 = tileScales
      (outsAt0 m c (t.val - 1) (Nat.lt_of_le_of_lt (Nat.sub_le _ _) t.isLt)).2.2.2 := by
  have hN : t.val < 49 := lt_of_lt_of_eq t.isLt N_0
  by_cases hl : t.val = 48
  · have h0 : ¬t.val % 49 = 0 := by omega
    have h1 : ¬(1 ≤ t.val % 49 ∧ t.val % 49 ≤ 47) := by omega
    have h2 : t.val % 49 = 48 := by omega
    simp only [outsAt0_C m c t h0 h1 h2]
    exact out0_C_6_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 0 t) (iblk m c 1 t) (iblk m c 2 t) (iblk m c 3 t) (iblk m c 4 t)
      (fun h => h0 ((hcond0_0 t).mp h)) (fun h => h1 ((hcond0_1 t).mp h)) ((hcond0_2 t).mpr h2)
  · have h0 : ¬t.val % 49 = 0 := by omega
    have h1 : (1 ≤ t.val % 49 ∧ t.val % 49 ≤ 47) := by omega
    have h2 : ¬t.val % 49 = 48 := by omega
    simp only [outsAt0_B m c t h0 h1 h2]
    exact out0_B_6_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      scM0_2 (Memref.isWhole_whole _) scM0_3 (Memref.isWhole_whole _)
      (outsAt0 m c (t.val - 1) (Nat.lt_of_le_of_lt (Nat.sub_le _ _) t.isLt)).2.2.1
      (outsAt0 m c (t.val - 1) (Nat.lt_of_le_of_lt (Nat.sub_le _ _) t.isLt)).2.2.2
      (iblk m c 0 t) (iblk m c 1 t) (iblk m c 2 t) (iblk m c 3 t) (iblk m c 4 t)
      (fun h => h0 ((hcond0_0 t).mp h)) ((hcond0_1 t).mpr h1) (fun h => h2 ((hcond0_2 t).mp h))

end Cert.KernelIdeal.Gen

end
-- ==== Proof.Spec.lean ====
/-
  The mathematics both programs compute, on rows and columns: the linear layer, its gelu, and the power-of-two
  quantisation of every row; and the same from the gelu over √2, whose magnitudes the kernel keeps the maxima of.
-/
module

public import proofs.«01_k».proof.Proof.Exponent
public import proofs.«01_k».proof.Proof.Constants

@[expose] public section

noncomputable section

namespace Cert.Spec

open Idealize.ShloMosaic Cert.Scalar Cert.Constants

variable (x : Fin 24576 → Fin 2048 → EReal) (xs : Fin 24576 → EReal) (w : Fin 7168 → Fin 2048 → EReal)
  (ws : Fin 7168 → EReal) (b : Fin 7168 → EReal)

/-- The linear layer at a row and a column. -/
def lin (r : Fin 24576) (n : Fin 7168) : EReal := (∑ k : Fin 2048, x r k * w n k) * xs r * ws n + b n

/-- Its gelu. -/
def act (r : Fin 24576) (n : Fin 7168) : EReal :=
  Cert.Scalar.gelu (Ideal.ofBits .f32 0x3F000000#32) (lin x xs w ws b r n)

/-- The greatest magnitude in a row. -/
def rowMax (r : Fin 24576) : EReal := Finset.univ.fold max ⊥ fun n : Fin 7168 => mag (act x xs w ws b r n)

/-- The exponent of a row's scale. -/
def rowExpo (r : Fin 24576) : EReal := refExpo (rowMax x xs w ws b r) (rowMax x xs w ws b r * recip448)

/-- The codes. -/
def code (r : Fin 24576) (n : Fin 7168) : EReal :=
  min (Ideal.ofBits .f32 0x43E00000#32) (max (Ideal.ofBits .f32 0xC3E00000#32)
    (act x xs w ws b r n * Ideal.exp2 (0 - rowExpo x xs w ws b r)))

/-- The scales. -/
def scale (r : Fin 24576) : EReal := Ideal.exp2 (rowExpo x xs w ws b r)

/-- The gelu over √2, as the kernel computes it. -/
def scaled (r : Fin 24576) (n : Fin 7168) : EReal :=
  scaledGelu ((∑ k : Fin 2048, x r k * w n k) * xs r * (ws n * s) + b n * s)

theorem scaled_mul_s (r : Fin 24576) (n : Fin 7168) : scaled x xs w ws b r n * s = act x xs w ws b r n := by
  unfold scaled act lin
  rw [scaled_preact, half_eq, scaledGelu_mul_s]

theorem rowMax_le_iff (r : Fin 24576) (c : EReal) :
    rowMax x xs w ws b r ≤ c ↔ ∀ n, mag (act x xs w ws b r n) ≤ c := by
  unfold rowMax
  rw [Finset.fold_max_le]
  simp

/-- A bound of the row's gelu over √2, times √½, is the row's greatest magnitude. -/
theorem rowMax_eq (r : Fin 24576) (v : EReal) (hv : ∀ c, v ≤ c ↔ ∀ n, mag (scaled x xs w ws b r n) ≤ c) :
    v * s = rowMax x xs w ws b r := by
  apply le_antisymm
  · obtain ⟨u, hu⟩ : ∃ u, rowMax x xs w ws b r = u * s := by
      refine ⟨rowMax x xs w ws b r * ((Real.sqrt 2 : ℝ) : EReal), ?_⟩
      have e : ((Real.sqrt 2 : ℝ) : EReal) * s = 1 := by
        unfold s
        rw [← EReal.coe_mul, mul_inv_cancel₀ (Real.sqrt_pos.mpr (by norm_num)).ne']
        rfl
      rw [mul_assoc, e, mul_one]
    rw [hu, mul_s_le_mul_s, hv]
    intro n
    rw [← mul_s_le_mul_s, mag_mul_s, scaled_mul_s, ← hu]
    exact (rowMax_le_iff x xs w ws b r _).mp le_rfl n
  · rw [rowMax_le_iff]
    intro n
    rw [← scaled_mul_s, ← mag_mul_s, mul_s_le_mul_s]
    exact (hv v).mp le_rfl n

theorem rowMax_nonneg (r : Fin 24576) : 0 ≤ rowMax x xs w ws b r := by
  refine le_trans ?_ ((rowMax_le_iff x xs w ws b r _).mp le_rfl 0)
  unfold mag
  rcases le_total 0 (act x xs w ws b r 0) with h | h
  · exact le_max_of_le_left h
  · exact le_max_of_le_right (by simpa using EReal.neg_le_neg_iff.mpr h)

/-- The row's exponent from the kernel's bit ladder. -/
theorem ladder_eq (r : Fin 24576) :
    scaleOf (rowMax x xs w ws b r * recip448) = scale x xs w ws b r
      ∧ invOf (rowMax x xs w ws b r * recip448) = Ideal.exp2 (0 - rowExpo x xs w ws b r) := by
  obtain ⟨q, hq, e⟩ := recip448_pos
  have hc : 0 < recip448 := by rw [e]; exact_mod_cast hq
  refine scale_inv_eq _ _ zero_eq (mul_nonneg (rowMax_nonneg x xs w ws b r) hc.le) ?_
  constructor
  · intro h
    rw [h, zero_mul]
  · intro h
    rcases mul_eq_zero.mp h with h | h
    · exact h
    · exact absurd h hc.ne'

/-- A code from the gelu over √2 and the inverse scale times √½. -/
theorem code_eq (r : Fin 24576) (n : Fin 7168) :
    min (Ideal.ofBits .f32 0x43E00000#32) (max (Ideal.ofBits .f32 0xC3E00000#32)
        (scaled x xs w ws b r n * (invOf (rowMax x xs w ws b r * recip448) * s)))
      = code x xs w ws b r n := by
  unfold code
  rw [(ladder_eq x xs w ws b r).2, ← scaled_mul_s, mul_assoc, mul_comm s]

end Cert.Spec

end
-- ==== Proof.Arrays.lean ====
/-
  The kernel's two results after the run, at a row and a column, from its arguments.
-/
module

public import proofs.«01_k».proof.Proof.Points
public import proofs.«01_k».proof.Proof.Spec
public import Idealize.ShloMosaic.Lib.Pipeline.ValueKit.Point

@[expose] public section

set_option maxRecDepth 16384

noncomputable section

namespace Cert.KernelIdeal.Gen

open Cert.KernelIdeal Idealize.ShloMosaic Idealize.ShloMosaic.TcCoe Idealize.ShloMosaic.Tactic

variable (m : (ℓ : Loc nD τ sig) → Buf (Elt Ideal) ℓ) (c : Dev nD)

theorem index0 : ∀ t : Fin cfg0.N, win0_0.index t = ![min t.val 47, 0, 0] :=
  (by decide +kernel : ∀ t : Fin grid0.N, win0_0.index t = ![min t.val 47, 0, 0])

theorem index1 : ∀ t : Fin cfg0.N, win0_1.index t = ![min t.val 47, 0] :=
  (by decide +kernel : ∀ t : Fin grid0.N, win0_1.index t = ![min t.val 47, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![t.val - 1, 0] :=
  (by decide +kernel : ∀ t : Fin grid0.N, win0_5.index t = ![t.val - 1, 0])

theorem index6 : ∀ t : Fin cfg0.N, win0_6.index t = ![t.val - 1, 0, 0] :=
  (by decide +kernel : ∀ t : Fin grid0.N, win0_6.index t = ![t.val - 1, 0, 0])

/-- The first point writes nothing back. -/
theorem flush5_pos : ∀ t : Fin cfg0.N, (cfg0.win 5).flush t = true → 1 ≤ t.val :=
  (by decide +kernel : ∀ t : Fin grid0.N, win0_5.flush t = true → 1 ≤ t.val)

theorem flush6_pos : ∀ t : Fin cfg0.N, (cfg0.win 6).flush t = true → 1 ≤ t.val :=
  (by decide +kernel : ∀ t : Fin grid0.N, win0_6.flush t = true → 1 ≤ t.val)

/-- The rows of the first operand, the second, … as plain functions of the arguments. -/
def argX (r : Fin 24576) (k : Fin 2048) : EReal :=
  (m ((c : Thread nD τ).loc main_arg0) : Vec Ideal S3x8192x2048 .fp8e4m3)
    (ix3 ⟨r.val / 8192, by omega⟩ ⟨r.val % 8192, by omega⟩ k)

def argXs (r : Fin 24576) : EReal :=
  (m ((c : Thread nD τ).loc main_arg1) : Vec Ideal S3x8192x1 .f32) (ix3 ⟨r.val / 8192, by omega⟩ ⟨r.val % 8192, by omega⟩ 0)

def argW (n : Fin 7168) (k : Fin 2048) : EReal :=
  (m ((c : Thread nD τ).loc main_arg2) : Vec Ideal S7168x2048 .fp8e4m3) (ix2 n k)

def argWs (n : Fin 7168) : EReal := (m ((c : Thread nD τ).loc main_arg3) : Vec Ideal S7168 .f32) (ix1 n)

def argB (n : Fin 7168) : EReal := (m ((c : Thread nD τ).loc main_arg4) : Vec Ideal S7168 .bf16) (ix1 n)

/-- The first operand's rows, as the grid finds them. -/
theorem entryX (r : Fin 24576) (k : Fin 2048) : (V m c main_v1 : Vec Ideal S24576x2048 .fp8e4m3) (ix2 r k) = argX m c r k := by
  entry_read
  unfold argX
  pointwise

theorem entryXs (t : Fin 48) (y1 : Fin 4) (y2 : Fin 128) :
    (V m c main_v0 : Vec Ideal S48x4x128 .f32) (ix3 t y1 y2) = argXs m c ⟨512 * t.val + 128 * y1.val + y2.val, by omega⟩ := by
  entry_read
  unfold argXs
  pointwise
  refine congrArg (m ((c : Thread nD τ).loc main_arg1) : Vec Ideal S3x8192x1 .f32) ?_
  have e1 : t.val / 16 = (512 * t.val + 128 * y1.val + y2.val) / 8192 := by omega
  have e2 : t.val % 16 * 512 + y1.val * 128 + y2.val = (512 * t.val + 128 * y1.val + y2.val) % 8192 := by omega
  simp only [e1, e2]

theorem entryWs (n : Fin 7168) : (V m c main_v2 : Vec Ideal S1x7168 .f32) (ix2 0 n) = argWs m c n := by
  entry_read
  unfold argWs
  pointwise

theorem entryB (n : Fin 7168) : (V m c main_v3 : Vec Ideal S1x7168 .bf16) (ix2 0 n) = argB m c n := by
  entry_read
  unfold argB
  pointwise

theorem iblk1_apply (t : Fin cfg0.N) (ht : t.val ≤ 47) (r : Fin 512) (k : Fin 2048) :
    (iblk m c 1 t : Vec Ideal S512x2048 .fp8e4m3) (ix2 r k) = argX m c ⟨512 * t.val + r.val, by omega⟩ k := by
  rw [← entryX]
  blk_ext [iblk, index1]

theorem iblk0_apply (t : Fin cfg0.N) (ht : t.val ≤ 47) (y1 : Fin 4) (y2 : Fin 128) :
    (iblk m c 0 t : Vec Ideal S1x4x128 .f32) (ix3 0 y1 y2) = argXs m c ⟨512 * t.val + 128 * y1.val + y2.val, by omega⟩ := by
  rw [← entryXs m c ⟨t.val, by omega⟩]
  blk_ext [iblk, index0]

theorem iblk2_apply (t : Fin cfg0.N) (n : Fin 7168) (k : Fin 2048) :
    (iblk m c 2 t : Vec Ideal S7168x2048 .fp8e4m3) (ix2 n k) = argW m c n k := by
  unfold argW
  rw [← V_main_arg2 m c]
  blk_ext [iblk, index2]

theorem iblk3_apply (t : Fin cfg0.N) (n : Fin 7168) :
    (iblk m c 3 t : Vec Ideal S1x7168 .f32) (ix2 0 n) = argWs m c n := by
  rw [← entryWs]
  blk_ext [iblk, index3]

theorem iblk4_apply (t : Fin cfg0.N) (n : Fin 7168) :
    (iblk m c 4 t : Vec Ideal S1x7168 .bf16) (ix2 0 n) = argB m c n := by
  rw [← entryB]
  blk_ext [iblk, index4]

/-- The tile of point `t` is 512 rows of the gelu over √2. -/
theorem pointG_apply (t : Fin cfg0.N) (ht : t.val ≤ 47) (r : Fin 512) (n : Fin 7168) :
    pointG m c t (ix2 r n) = Cert.Spec.scaled (argX m c) (argXs m c) (argW m c) (argWs m c) (argB m c)
      ⟨512 * t.val + r.val, by omega⟩ n := by
  unfold pointG tileG Cert.Spec.scaled
  have e0 := iblk0_apply m c t ht ⟨r.val / 128, by omega⟩ ⟨r.val % 128, by omega⟩
  have ex : (⟨512 * t.val + 128 * (r.val / 128) + r.val % 128, by omega⟩ : Fin 24576) = ⟨512 * t.val + r.val, by omega⟩ :=
    Fin.ext (by show 512 * t.val + 128 * (r.val / 128) + r.val % 128 = 512 * t.val + r.val; omega)
  rw [← iblk3_apply m c t n, ← iblk4_apply m c t n,
    (congrArg (argXs m c) ex.symm).trans e0.symm]
  simp only [← iblk1_apply m c t ht, ← iblk2_apply m c t]
  rfl

/-- The maximum of a row's lane maxima, times √½, is the row's greatest magnitude. -/
theorem laneMax_mul_s (t : Fin cfg0.N) (ht : t.val ≤ 47) (r : Fin 512) :
    laneMax (outsAt0 m c t.val t.isLt).2.2.2 r * Cert.Scalar.s
      = Cert.Spec.rowMax (argX m c) (argXs m c) (argW m c) (argWs m c) (argB m c) ⟨512 * t.val + r.val, by omega⟩ := by
  refine Cert.Spec.rowMax_eq _ _ _ _ _ _ _ fun b => ?_
  have hmax := scratchMax m c t ht
  unfold laneMax
  rw [Finset.fold_max_le]
  constructor
  · intro h n
    rw [← pointG_apply m c t ht r n]
    exact (hmax (ix2 r ⟨n.val % 128, by omega⟩) b).mp (h.2 ⟨n.val % 128, by omega⟩ (Finset.mem_univ _)) n n.isLt rfl
  · intro h
    refine ⟨bot_le, fun l _ => (hmax (ix2 r l) b).mpr fun n _ _ => ?_⟩
    have := h n
    rw [← pointG_apply m c t ht r n] at this
    exact this

/-- The codes of the tile that point `t` computed. -/
theorem tileCodes_apply (t : Fin cfg0.N) (ht : t.val ≤ 47) (r : Fin 512) (n : Fin 7168) (y : S512x7168.Idx)
    (hy : y = ix2 r n) (r' : Fin 24576) (hr : r'.val = 512 * t.val + r.val) (n' : Fin 7168) (hn : n' = n) :
    tileCodes (outsAt0 m c t.val t.isLt).2.2.1 (outsAt0 m c t.val t.isLt).2.2.2 y
      = Cert.Spec.code (argX m c) (argXs m c) (argW m c) (argWs m c) (argB m c) r' n' := by
  subst hy hn
  have e0 : r' = (⟨512 * t.val + r.val, by omega⟩ : Fin 24576) := Fin.ext hr
  rw [e0, ← Cert.Spec.code_eq, ← laneMax_mul_s m c t ht r, ← pointG_apply m c t ht r n', scratchG m c t ht]
  rfl

/-- The scales of its rows. -/
theorem tileScales_apply (t : Fin cfg0.N) (ht : t.val ≤ 47) (y : S1x4x128.Idx) (r : Fin 24576)
    (hr : r.val = 512 * t.val + 128 * (y 1).val + (y 2).val) :
    tileScales (outsAt0 m c t.val t.isLt).2.2.2 y
      = Cert.Spec.scale (argX m c) (argXs m c) (argW m c) (argWs m c) (argB m c) r := by
  have h1 : (y 1).val < 4 := (y 1).isLt
  have h2 : (y 2).val < 128 := (y 2).isLt
  have e : r = (⟨512 * t.val + (⟨128 * (y 1).val + (y 2).val, by omega⟩ : Fin 512).val, by
      show 512 * t.val + (128 * (y 1).val + (y 2).val) < 24576
      omega⟩ : Fin 24576) :=
    Fin.ext (by show r.val = 512 * t.val + (128 * (y 1).val + (y 2).val); omega)
  rw [e, ← (Cert.Spec.ladder_eq _ _ _ _ _ _).1, ← laneMax_mul_s m c t ht]
  rfl

/-- The codes after the run. -/
theorem codes_final : (dats m 0 c).arrAt 5 cfg0.N = fun i : S24576x7168.Idx =>
    Cert.Spec.code (argX m c) (argXs m c) (argW m c) (argWs m c) (argB m c) (i 0) (i 1) := by
  refine (dats m 0 c).arrAt_eq_of_covers 5 _ (by decide +kernel) fun t hf y => ?_
  have hN : t.val < 49 := lt_of_lt_of_eq t.isLt N_0
  have h1 := flush5_pos t hf
  blk_simp
  rw [after0_5, pointCodes m c t h1]
  refine tileCodes_apply m c ⟨t.val - 1, lt_of_le_of_lt (Nat.sub_le _ _) t.isLt⟩ (by show t.val - 1 ≤ 47; omega) (y 0) (y 1) y
    (by funext a; fin_cases a <;> rfl) _ ?_ _ ?_
  · have e := congrFun (index5 t) 0
    blk_simp
    simp only [e]
    show (t.val - 1) * 512 + _ = 512 * (t.val - 1) + _
    omega
  · have e := congrFun (index5 t) 1
    apply Fin.ext
    blk_simp
    simp [e]

/-- The scales after the run. -/
theorem scales_final : (dats m 0 c).arrAt 6 cfg0.N = fun i : S48x4x128.Idx =>
    Cert.Spec.scale (argX m c) (argXs m c) (argW m c) (argWs m c) (argB m c)
      ⟨512 * (i 0).val + 128 * (i 1).val + (i 2).val, by
        have h0 : (i 0).val < 48 := (i 0).isLt
        have h1 : (i 1).val < 4 := (i 1).isLt
        have h2 : (i 2).val < 128 := (i 2).isLt
        omega⟩ := by
  refine (dats m 0 c).arrAt_eq_of_covers 6 _ (by decide +kernel) fun t hf y => ?_
  have hN : t.val < 49 := lt_of_lt_of_eq t.isLt N_0
  have h1 := flush6_pos t hf
  blk_simp
  rw [after0_6, pointScales m c t h1]
  refine tileScales_apply m c ⟨t.val - 1, lt_of_le_of_lt (Nat.sub_le _ _) t.isLt⟩ (by show t.val - 1 ≤ 47; omega) y _ ?_
  show 512 * win0_6.index t 0 + 128 * (win0_6.index t 1 * 4 + _) + (win0_6.index t 2 * 128 + _) = _
  rw [congrFun (index6 t) 0, congrFun (index6 t) 1, congrFun (index6 t) 2]
  show 512 * (t.val - 1) + 128 * (0 * 4 + _) + (0 * 128 + _) = 512 * (t.val - 1) + 128 * _ + _
  omega

end Cert.KernelIdeal.Gen

end
-- ==== Proof.RefRows.lean ====
/-
  The reference's vector operations at a row and a column: its gelu, each row's greatest magnitude, the scale exponents,
  the scales and the codes.
-/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Gen

open Cert.ReferenceIdeal Idealize.ShloMosaic Idealize.ShloMosaic.TcCoe Idealize.ShloMosaic.Tactic

variable (P0 : Vec Ideal S24576x2048 .fp8e4m3) (P1 : Vec Ideal S7168x2048 .fp8e4m3) (P2 : Vec Ideal S24576x1 .f32)
  (P3 : Vec Ideal S1x7168 .f32) (P4 : Vec Ideal S1x7168 .bf16)

/-- The operands as plain functions of rows and columns. -/
def rowX (r : Fin 24576) (k : Fin 2048) : EReal := P0 (ix2 r k)
def rowXs (r : Fin 24576) : EReal := P2 (ix2 r 0)
def rowW (n : Fin 7168) (k : Fin 2048) : EReal := P1 (ix2 n k)
def colWs (n : Fin 7168) : EReal := P3 (ix2 0 n)
def colB (n : Fin 7168) : EReal := P4 (ix2 0 n)

theorem named_s : Named.named (F := Ideal) κ "sqrt_half" (φ := .f32) 0x3F3504F3#32 = Cert.Scalar.s :=
  IdealRules.named_const.ideal_named_scalar _ _ _ _ rfl

theorem named_ln2 : Named.named (F := Ideal) κ "ln_2" (φ := .f32) 0x3F317218#32 = ((Real.log 2 : ℝ) : EReal) :=
  IdealRules.named_const.ideal_named_scalar _ _ _ _ rfl

/-- The exponents before zeros are set apart, from each row's greatest magnitude. -/
def expoVec (A : FVec Ideal S24576x1 .f32) : FVec Ideal S24576x1 .f32 :=
  minimumf (broadcast S24576x1 (Scalar.ofBits .f32 0x42FC0000#32))
    (maximumf (broadcast S24576x1 (Scalar.ofBits .f32 0xC2FC0000#32))
      (addf (floor (divf (log (mulf A (broadcast S24576x1 (Scalar.ofBits .f32 0x3B124925#32))))
          (broadcast S24576x1 (Named.named (F := Ideal) κ "ln_2" (φ := .f32) 0x3F317218#32))))
        (broadcast S24576x1 (Scalar.ofBits .f32 0x3F800000#32))))

/-- The body's exponents are these of its own maxima. -/
theorem pay6_eq : k0_pay6 P0 P1 P2 P3 P4 = expoVec (k0_pay5 P0 P1 P2 P3 P4) := rfl

/-- They are the reference's exponent, row by row. -/
theorem expoVec_apply (A : FVec Ideal S24576x1 .f32) (r : Fin 24576) :
    expoVec A (ix2 r 0) = Cert.Scalar.logExpo (A (ix2 r 0) * Ideal.ofBits .f32 0x3B124925#32) := by
  have h : expoVec A (ix2 r 0) = min (Ideal.ofBits .f32 0x42FC0000#32) (max (Ideal.ofBits .f32 0xC2FC0000#32)
      (Ideal.liftRound Int.floor (Ideal.div (Ideal.log (A (ix2 r 0) * Ideal.ofBits .f32 0x3B124925#32))
        (Named.named (F := Ideal) κ "ln_2" (φ := .f32) 0x3F317218#32)) + Ideal.ofBits .f32 0x3F800000#32)) := rfl
  rw [h, named_ln2, Cert.Constants.neg126_eq, Cert.Constants.pos126_eq, Cert.Constants.one_eq]
  rfl

/-- A row of zeros has exponent zero. -/
theorem pay1_apply (a e : FVec Ideal S24576x1 .f32) (r : Fin 24576) :
    k0_pay1 a e (k0_pay7 (F := Ideal)) (ix2 r 0)
      = Scalar.select (Ideal.cmp .oeq (a (ix2 r 0)) 0) 0 (e (ix2 r 0)) := by
  have h : k0_pay1 a e (k0_pay7 (F := Ideal)) (ix2 r 0)
      = Scalar.select (Ideal.cmp .oeq (a (ix2 r 0)) (Ideal.ofBits .f32 0x00000000#32)) (Ideal.ofBits .f32 0x00000000#32)
          (e (ix2 r 0)) := rfl
  rw [h, Cert.Constants.zero_eq]

/-- The codes' rounding and clamping, at a row and a column. -/
theorem clamp_apply (v : FVec Ideal S24576x7168 .f32) (a e z : FVec Ideal S24576x1 .f32) (r : Fin 24576) (n : Fin 7168) :
    k0_pay2 v a e z (ix2 r n)
      = min (Ideal.ofBits .f32 0x43E00000#32) (max (Ideal.ofBits .f32 0xC3E00000#32)
          (v (ix2 r n) * Ideal.exp2 (0 - k0_pay1 a e z (ix2 r 0)))) := by
  rw [← Cert.Constants.zero_eq]
  unfold k0_pay2
  generalize k0_pay1 a e z = E
  pointwise
  rfl

/-- The scales, at a tile, a row block and a row of it. -/
theorem power_apply (a e z : FVec Ideal S24576x1 .f32) (i : S48x4x128.Idx) (r : Fin 24576)
    (hr : r.val = 512 * (i 0).val + 128 * (i 1).val + (i 2).val) :
    k0_pay3 a e z i = Ideal.exp2 (k0_pay1 a e z (ix2 r 0)) := by
  unfold k0_pay3
  generalize k0_pay1 a e z = E
  refine shapeCast_apply (exp2 E) shapeCasts_S24576x1_S48x4x128 i (ix2 r 0) ?_
  rw [Shape.rowMajor_val_two, Shape.rowMajor_val_three]
  show r.val * 1 + 0 = ((i 0).val * 4 + (i 1).val) * 128 + (i 2).val
  omega

/-- The gelu. -/
theorem act_apply (r : Fin 24576) (n : Fin 7168) :
    k0_pay4 P0 P1 P2 P3 P4 (ix2 r n)
      = Cert.Spec.act (rowX P0) (rowXs P2) (rowW P1) (colWs P3) (colB P4) r n := by
  unfold k0_pay4 Cert.Spec.act Cert.Spec.lin Cert.Scalar.gelu
  simp only [named_s]
  pointwise
  rfl

/-- Each row's greatest magnitude. -/
theorem rowMaxOf_apply (v : FVec Ideal S24576x7168 .f32) (r : Fin 24576) :
    shapeCast S24576x1 (multiReduction (φ := .f32) .maximumf [1] S24576 (absf v) 0xFF800000#32 reduces_S24576x7168_S24576 (.inl rfl) rfl)
        shapeCasts_S24576_S24576x1 (ix2 r 0)
      = Finset.univ.fold max ⊥ fun n : Fin 7168 => Cert.Scalar.mag (v (ix2 r n)) := by
  pointwise
  rw [Cert.Constants.ninf_eq]
  rfl

/-- The body's maxima are those of its gelu. -/
theorem pay5_eq : k0_pay5 P0 P1 P2 P3 P4 = shapeCast S24576x1 (multiReduction (φ := .f32) .maximumf [1] S24576 (absf (k0_pay4 P0 P1 P2 P3 P4)) 0xFF800000#32 reduces_S24576x7168_S24576 (.inl rfl) rfl)
        shapeCasts_S24576_S24576x1 := rfl

theorem rowMax_apply (r : Fin 24576) :
    k0_pay5 P0 P1 P2 P3 P4 (ix2 r 0)
      = Cert.Spec.rowMax (rowX P0) (rowXs P2) (rowW P1) (colWs P3) (colB P4) r := by
  rw [pay5_eq, rowMaxOf_apply]
  unfold Cert.Spec.rowMax
  simp only [act_apply P0 P1 P2 P3 P4]

/-- Each row's exponent. -/
theorem expo_apply (r : Fin 24576) :
    k0_pay1 (k0_pay5 P0 P1 P2 P3 P4) (k0_pay6 P0 P1 P2 P3 P4) (k0_pay7 (F := Ideal)) (ix2 r 0)
      = Cert.Spec.rowExpo (rowX P0) (rowXs P2) (rowW P1) (colWs P3) (colB P4) r := by
  rw [pay1_apply, pay6_eq, expoVec_apply, rowMax_apply P0 P1 P2 P3 P4]
  rfl

/-- The codes the body stores. -/
theorem codes_apply (r : Fin 24576) (n : Fin 7168) :
    k0_pay2 (k0_pay4 P0 P1 P2 P3 P4) (k0_pay5 P0 P1 P2 P3 P4) (k0_pay6 P0 P1 P2 P3 P4) (k0_pay7 (F := Ideal)) (ix2 r n)
      = Cert.Spec.code (rowX P0) (rowXs P2) (rowW P1) (colWs P3) (colB P4) r n := by
  rw [clamp_apply, expo_apply P0 P1 P2 P3 P4, act_apply P0 P1 P2 P3 P4]
  rfl

/-- The scales the body stores. -/
theorem scales_apply (i : S48x4x128.Idx) (r : Fin 24576) (hr : r.val = 512 * (i 0).val + 128 * (i 1).val + (i 2).val) :
    k0_pay3 (k0_pay5 P0 P1 P2 P3 P4) (k0_pay6 P0 P1 P2 P3 P4) (k0_pay7 (F := Ideal)) i
      = Cert.Spec.scale (rowX P0) (rowXs P2) (rowW P1) (colWs P3) (colB P4) r := by
  rw [power_apply _ _ _ i r hr, expo_apply P0 P1 P2 P3 P4]
  rfl

end Cert.ReferenceIdeal.Gen
-- ==== Proof.RefArrays.lean ====
/-
  The reference's two results after the run, at a row and a column, from its arguments.
-/
module

public import proofs.«01_k».proof.Proof.RefRows
public import Idealize.ShloMosaic.Lib.Pipeline.ValueKit.Point

@[expose] public section

set_option maxRecDepth 16384

noncomputable section

namespace Cert.ReferenceIdeal.Gen

open Cert.ReferenceIdeal Idealize.ShloMosaic Idealize.ShloMosaic.TcCoe Idealize.ShloMosaic.Tactic

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0, 0] :=
  (by decide +kernel : ∀ t : Fin grid0.N, win0_6.index t = ![0, 0, 0])

/-- The rows of the first operand, the second, … as plain functions of the arguments. -/
def argX (r : Fin 24576) (k : Fin 2048) : EReal :=
  (m ((c : Thread nD τ).loc main_arg0) : Vec Ideal S3x8192x2048 .fp8e4m3)
    (ix3 ⟨r.val / 8192, by omega⟩ ⟨r.val % 8192, by omega⟩ k)

def argXs (r : Fin 24576) : EReal :=
  (m ((c : Thread nD τ).loc main_arg1) : Vec Ideal S3x8192x1 .f32) (ix3 ⟨r.val / 8192, by omega⟩ ⟨r.val % 8192, by omega⟩ 0)

def argW (n : Fin 7168) (k : Fin 2048) : EReal :=
  (m ((c : Thread nD τ).loc main_arg2) : Vec Ideal S7168x2048 .fp8e4m3) (ix2 n k)

def argWs (n : Fin 7168) : EReal := (m ((c : Thread nD τ).loc main_arg3) : Vec Ideal S7168 .f32) (ix1 n)

def argB (n : Fin 7168) : EReal := (m ((c : Thread nD τ).loc main_arg4) : Vec Ideal S7168 .bf16) (ix1 n)

/-- The operands, as the body finds them. -/
theorem entryX (r : Fin 24576) (k : Fin 2048) : (V m c main_v0 : Vec Ideal S24576x2048 .fp8e4m3) (ix2 r k) = argX m c r k := by
  entry_read
  unfold argX
  pointwise

theorem entryXs (r : Fin 24576) : (V m c main_v1 : Vec Ideal S24576x1 .f32) (ix2 r 0) = argXs m c r := by
  entry_read
  unfold argXs
  pointwise

theorem entryWs (n : Fin 7168) : (V m c main_v2 : Vec Ideal S1x7168 .f32) (ix2 0 n) = argWs m c n := by
  entry_read
  unfold argWs
  pointwise

theorem entryB (n : Fin 7168) : (V m c main_v3 : Vec Ideal S1x7168 .bf16) (ix2 0 n) = argB m c n := by
  entry_read
  unfold argB
  pointwise

theorem iblk0_apply (t : Fin cfg0.N) : rowX (iblk m c 0 t) = argX m c := by
  funext r k
  rw [← entryX]
  unfold rowX
  blk_ext [iblk, index0]

theorem iblk1_apply (t : Fin cfg0.N) : rowXs (iblk m c 1 t) = argXs m c := by
  funext r
  rw [← entryXs]
  unfold rowXs
  blk_ext [iblk, index1]

theorem iblk2_apply (t : Fin cfg0.N) : rowW (iblk m c 2 t) = argW m c := by
  funext n k
  unfold argW rowW
  rw [← V_main_arg2 m c]
  blk_ext [iblk, index2]

theorem iblk3_apply (t : Fin cfg0.N) : colWs (iblk m c 3 t) = argWs m c := by
  funext n
  rw [← entryWs]
  unfold colWs
  blk_ext [iblk, index3]

theorem iblk4_apply (t : Fin cfg0.N) : colB (iblk m c 4 t) = argB m c := by
  funext n
  rw [← entryB]
  unfold colB
  blk_ext [iblk, index4]

theorem hz2 : (![0, 0] : Fin 2 → Nat) = fun _ => 0 := funext fun a => by fin_cases a <;> rfl

theorem hz3 : (![0, 0, 0] : Fin 3 → Nat) = fun _ => 0 := funext fun a => by fin_cases a <;> rfl

/-- The body's blocks are its payloads of the operands whole. -/
theorem out5_eq (x0 : Vec Ideal S24576x2048 .fp8e4m3) (x1 : Vec Ideal S24576x1 .f32) (x2 : Vec Ideal S7168x2048 .fp8e4m3)
    (x3 : Vec Ideal S1x7168 .f32) (x4 : Vec Ideal S1x7168 .bf16) :
    out0_5 x0 x1 x2 x3 x4
      = k0_pay2 (k0_pay4 x0 x2 x1 x3 x4) (k0_pay5 x0 x2 x1 x3 x4) (k0_pay6 x0 x2 x1 x3 x4) (k0_pay7 (F := Ideal)) := by
  unfold_out out0_5
  rw [View.canon_cons_unit_zero (S := S24576x7168) hz2]
  rw [View.ld_unit_zero (S := S24576x2048) hz2, View.ld_unit_zero (S := S24576x1) hz2, View.ld_unit_zero (S := S7168x2048) hz2,
    View.ld_unit_zero (S := S1x7168) hz2, View.ld_unit_zero (S := S1x7168) hz2]

theorem out6_eq (x0 : Vec Ideal S24576x2048 .fp8e4m3) (x1 : Vec Ideal S24576x1 .f32) (x2 : Vec Ideal S7168x2048 .fp8e4m3)
    (x3 : Vec Ideal S1x7168 .f32) (x4 : Vec Ideal S1x7168 .bf16) :
    out0_6 x0 x1 x2 x3 x4
      = k0_pay3 (k0_pay5 x0 x2 x1 x3 x4) (k0_pay6 x0 x2 x1 x3 x4) (k0_pay7 (F := Ideal)) := by
  unfold_out out0_6
  rw [View.canon_cons_unit_zero (S := S48x4x128) hz3]
  rw [View.ld_unit_zero (S := S24576x2048) hz2, View.ld_unit_zero (S := S24576x1) hz2, View.ld_unit_zero (S := S7168x2048) hz2,
    View.ld_unit_zero (S := S1x7168) hz2, View.ld_unit_zero (S := S1x7168) hz2]

/-- The block of codes. -/
theorem blockCodes_apply (t : Fin cfg0.N) (r : Fin 24576) (n : Fin 7168) (y : S24576x7168.Idx) (hy : y = ix2 r n)
    (r' : Fin 24576) (hr : r' = r) (n' : Fin 7168) (hn : n' = n) :
    out0_5 (iblk m c 0 t) (iblk m c 1 t) (iblk m c 2 t) (iblk m c 3 t) (iblk m c 4 t) y
      = Cert.Spec.code (argX m c) (argXs m c) (argW m c) (argWs m c) (argB m c) r' n' := by
  subst hy hr hn
  rw [out5_eq, codes_apply, iblk0_apply, iblk1_apply, iblk2_apply, iblk3_apply, iblk4_apply]

/-- The block of scales. -/
theorem blockScales_apply (t : Fin cfg0.N) (y : S48x4x128.Idx) (r : Fin 24576)
    (hr : r.val = 512 * (y 0).val + 128 * (y 1).val + (y 2).val) :
    out0_6 (iblk m c 0 t) (iblk m c 1 t) (iblk m c 2 t) (iblk m c 3 t) (iblk m c 4 t) y
      = Cert.Spec.scale (argX m c) (argXs m c) (argW m c) (argWs m c) (argB m c) r := by
  rw [out6_eq, scales_apply _ _ _ _ _ y r hr, iblk0_apply, iblk1_apply, iblk2_apply, iblk3_apply, iblk4_apply]

/-- The codes after the run. -/
theorem codes_final : (dats m 0 c).arrAt 5 cfg0.N = fun i : S24576x7168.Idx =>
    Cert.Spec.code (argX m c) (argXs m c) (argW m c) (argWs m c) (argB m c) (i 0) (i 1) := by
  refine (dats m 0 c).arrAt_eq_of_covers 5 _ (by decide +kernel) fun t hf y => ?_
  blk_simp
  rw [after0_5]
  refine blockCodes_apply m c t (y 0) (y 1) y (by funext a; fin_cases a <;> rfl) _ ?_ _ ?_
  · have e := congrFun (index5 t) 0
    apply Fin.ext
    blk_simp
    simp [e]
  · have e := congrFun (index5 t) 1
    apply Fin.ext
    blk_simp
    simp [e]

/-- The scales after the run. -/
theorem scales_final : (dats m 0 c).arrAt 6 cfg0.N = fun i : S48x4x128.Idx =>
    Cert.Spec.scale (argX m c) (argXs m c) (argW m c) (argWs m c) (argB m c)
      ⟨512 * (i 0).val + 128 * (i 1).val + (i 2).val, by
        have h0 : (i 0).val < 48 := (i 0).isLt
        have h1 : (i 1).val < 4 := (i 1).isLt
        have h2 : (i 2).val < 128 := (i 2).isLt
        omega⟩ := by
  refine (dats m 0 c).arrAt_eq_of_covers 6 _ (by decide +kernel) fun t hf y => ?_
  blk_simp
  rw [after0_6]
  refine blockScales_apply m c t y _ ?_
  show 512 * (win0_6.index t 0 * 48 + _) + 128 * (win0_6.index t 1 * 4 + _) + (win0_6.index t 2 * 128 + _) = _
  rw [congrFun (index6 t) 0, congrFun (index6 t) 1, congrFun (index6 t) 2]
  show 512 * (0 * 48 + _) + 128 * (0 * 4 + _) + (0 * 128 + _) = 512 * _ + 128 * _ + _
  omega

end Cert.ReferenceIdeal.Gen

end
-- ==== Proof.lean ====
module

public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ => Cert.ReferenceIdeal.Gen.frame m ρ
theorem frame_r : Cert.quiescent_Reference := fun m ρ _ => Cert.Reference.Gen.frame m ρ

theorem preserves_p : Cert.preserves_Kernel_KernelIdeal :=
  IdealRules.named_const.statement Cert.KernelIdeal.κ "sqrt_half" .f32 0x3F3504F3#32 _ rfl

theorem preserves_r : Cert.preserves_Reference_ReferenceIdeal :=
  ⟨IdealRules.named_const.statement Cert.ReferenceIdeal.κ "sqrt_half" .f32 0x3F3504F3#32 _ rfl,
    IdealRules.named_const.statement Cert.ReferenceIdeal.κ "ln_2" .f32 0x3F317218#32 _ rfl⟩

/-- From memories agreeing on the arguments both programs end with the codes and the scales of `Cert.Spec`. -/
theorem algebraic : Cert.algebraic_KernelIdeal_ReferenceIdeal := by
  intro m ρ m' ρ' _ hagree
  have hX : ∀ c, Cert.ReferenceIdeal.Gen.argX m' c = Cert.KernelIdeal.Gen.argX m c := fun c => by
    unfold Cert.ReferenceIdeal.Gen.argX Cert.KernelIdeal.Gen.argX
    rw [(hagree c).1]
  have hXs : ∀ c, Cert.ReferenceIdeal.Gen.argXs m' c = Cert.KernelIdeal.Gen.argXs m c := fun c => by
    unfold Cert.ReferenceIdeal.Gen.argXs Cert.KernelIdeal.Gen.argXs
    rw [(hagree c).2.1]
  have hW : ∀ c, Cert.ReferenceIdeal.Gen.argW m' c = Cert.KernelIdeal.Gen.argW m c := fun c => by
    unfold Cert.ReferenceIdeal.Gen.argW Cert.KernelIdeal.Gen.argW
    rw [(hagree c).2.2.1]
  have hWs : ∀ c, Cert.ReferenceIdeal.Gen.argWs m' c = Cert.KernelIdeal.Gen.argWs m c := fun c => by
    unfold Cert.ReferenceIdeal.Gen.argWs Cert.KernelIdeal.Gen.argWs
    rw [(hagree c).2.2.2.1]
  have hB : ∀ c, Cert.ReferenceIdeal.Gen.argB m' c = Cert.KernelIdeal.Gen.argB m c := fun c => by
    unfold Cert.ReferenceIdeal.Gen.argB Cert.KernelIdeal.Gen.argB
    rw [(hagree c).2.2.2.2]
  refine ⟨fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m ρ, ?_⟩
  refine (θ_run Cert.ReferenceIdeal.defs _ _).mono (fun r h c => ⟨(h c).1.trans ?_, (h c).2.1.trans ?_, (h c).2.2⟩)
    (Cert.ReferenceIdeal.Value.run_blocks (F := Ideal) m' ρ')
  · refine ((Cert.ReferenceIdeal.Gen.codes_final m' c).trans ?_).trans (Cert.KernelIdeal.Gen.codes_final m c).symm
    rw [hX, hXs, hW, hWs, hB]
  · refine ((Cert.ReferenceIdeal.Gen.scales_final m' c).trans ?_).trans (Cert.KernelIdeal.Gen.scales_final m c).symm
    rw [hX, hXs, hW, hWs, hB]

theorem claim : Cert.Claim :=
  ⟨Cert.Kernel.Gen.facts, Cert.KernelIdeal.Gen.facts, Cert.ReferenceIdeal.Gen.facts, Cert.Reference.Gen.facts,
    frame_p, frame_pi, frame_ri, frame_r, preserves_p, preserves_r, algebraic⟩

end Cert.Proof

end
